-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_gate_columns [hKernel2Ideal : Cert.Kernel2Ideal.Facts] [hReference2Ideal : Cert.Reference2Ideal.Facts] [hOn_gate_columns : Cert.On_gate_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 1024]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Kernel2Ideal.nD Cert.Kernel2Ideal.τ).loc Cert.Kernel2Ideal.main_v0_0) i = v0 c i)
          ∧ (∀ i : (⟨2, ![4096, 1024]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Kernel2Ideal.nD Cert.Kernel2Ideal.τ).loc Cert.Kernel2Ideal.main_v0_1) i = v1 c i)
          ∧ (∀ i : (⟨2, ![4096, 3840]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 i = 1#1 → r.2.mem ((c.tc : Thread Cert.Kernel2Ideal.nD Cert.Kernel2Ideal.τ).loc Cert.Kernel2Ideal.main_v0_2) i = v2 c i)
          ∧ (∀ i : (⟨2, ![2, 1024]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 i = 1#1 → r.2.mem ((c.tc : Thread Cert.Kernel2Ideal.nD Cert.Kernel2Ideal.τ).loc Cert.Kernel2Ideal.main_v0_3) i = v3 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 1024]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Reference2Ideal.nD Cert.Reference2Ideal.τ).loc Cert.Reference2Ideal.main_v42) i = v0 c i)
          ∧ (∀ i : (⟨2, ![4096, 1024]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Reference2Ideal.nD Cert.Reference2Ideal.τ).loc Cert.Reference2Ideal.main_v43) i = v1 c i)
          ∧ (∀ i : (⟨2, ![4096, 3840]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 i = 1#1 → r.2.mem ((c.tc : Thread Cert.Reference2Ideal.nD Cert.Reference2Ideal.τ).loc Cert.Reference2Ideal.main_v44) i = v2 c i)
          ∧ (∀ i : (⟨2, ![2, 1024]⟩ : Shape).Idx, (Cert.On_gate_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 i = 1#1 → r.2.mem ((c.tc : Thread Cert.Reference2Ideal.nD Cert.Reference2Ideal.τ).loc Cert.Reference2Ideal.main_v39) i = v3 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hOn_gate_columns : Cert.On_gate_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_gate_columns (hKernel2Ideal := hKernel2Ideal) (hReference2Ideal := hReference2Ideal) (hOn_gate_columns := hOn_gate_columns)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== On_gate_columns.lean ====
abbrev S4096x3840 : Shape := ⟨2, ![4096, 3840]⟩
abbrev S2x2x1024 : Shape := ⟨3, ![2, 2, 1024]⟩
abbrev S4096x1024 : Shape := ⟨2, ![4096, 1024]⟩
abbrev S_ : Shape := ⟨0, ![]⟩
abbrev S2x1024 : Shape := ⟨2, ![2, 1024]⟩

class Facts : Prop where
  bcast_S_S4096x1024 : S_.BroadcastsInDim S4096x1024 (![] : Fin 0 → Fin S4096x1024.rank)
  bcast_S_S4096x3840 : S_.BroadcastsInDim S4096x3840 (![] : Fin 0 → Fin S4096x3840.rank)
  bcast_S_S2x1024 : S_.BroadcastsInDim S2x1024 (![] : Fin 0 → Fin S2x1024.rank)

variable [Facts]

def fn {F : FTy → Type} [FloatOps F] (main_arg0 : FVec F S4096x3840 .bf16) (main_arg1 : FVec F S2x2x1024 .f32) (main_arg2 : FVec F S4096x1024 .bf16) (main_arg3 : FVec F S4096x1024 .bf16) (main_arg4 : FVec F S4096x1024 .bf16) : IVec S4096x1024 1 × IVec S4096x1024 1 × IVec S4096x3840 1 × IVec S2x1024 1 :=
  let main_c : IVec S_ 1 := constantI S_ 1 1#1
  let main_v0 : IVec S4096x1024 1 := broadcastInDim S4096x1024 ![] bcast_S_S4096x1024 main_c
  let main_c_0 : IVec S_ 1 := constantI S_ 1 1#1
  let main_v1 : IVec S4096x1024 1 := broadcastInDim S4096x1024 ![] bcast_S_S4096x1024 main_c_0
  let main_v2 : IVec S4096x3840 32 := iotaInDim S4096x3840 32 1
  let main_c_1 : IVec S_ 32 := constantI S_ 32 2048#32
  let main_v3 : IVec S4096x3840 32 := broadcastInDim S4096x3840 ![] bcast_S_S4096x3840 main_c_1
  let main_v4 : IVec S4096x3840 1 := cmpi .slt main_v2 main_v3
  let main_c_2 : IVec S_ 1 := constantI S_ 1 1#1
  let main_v5 : IVec S2x1024 1 := broadcastInDim S2x1024 ![] bcast_S_S2x1024 main_c_2
  (main_v0, main_v1, main_v4, main_v5)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x1024 .bf16) (main_arg1 : FVec F S4096x1024 .bf16) (main_arg2 : FVec F S4096x1024 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Kernel.lean ====
abbrev S4096x1024 : Shape := ⟨2, ![4096, 1024]⟩
abbrev S4096x8x128 : Shape := ⟨3, ![4096, 8, 128]⟩
abbrev S8x4096x4096 : Shape := ⟨3, ![8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩
abbrev S4096x128 : Shape := ⟨2, ![4096, 128]⟩
abbrev S1x4096x128 : Shape := ⟨3, ![1, 4096, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x128 : Shape := ⟨3, ![1, 512, 128]⟩

abbrev nBuf : Space → Nat
  | .hbm => 64
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S8x4096x4096, .f32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S4096x1024, .f32⟩
  | .hbm, ⟨53, _⟩ => ⟨S4096x8x128, .f32⟩
  | .hbm, ⟨54, _⟩ => ⟨S8x128x4096, .f32⟩
  | .hbm, ⟨55, _⟩ => ⟨S4096x8x128, .f32⟩
  | .hbm, ⟨56, _⟩ => ⟨S4096x1024, .f32⟩
  | .hbm, ⟨57, _⟩ => ⟨S4096x1024, .bf16⟩
  | .hbm, ⟨58, _⟩ => ⟨S8x4096x1, .f32⟩
  | .hbm, ⟨59, _⟩ => ⟨S8x4096x1, .f32⟩
  | .hbm, ⟨60, _⟩ => ⟨S8x4096x128, .f32⟩
  | .hbm, ⟨61, _⟩ => ⟨S4096x1024, .f32⟩
  | .hbm, ⟨62, _⟩ => ⟨S4096x1024, .f32⟩
  | .hbm, ⟨63, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x4096x128, .f32⟩
  | .local _ .vmem, ⟨11, _⟩ => ⟨S1x4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34_0 : Ref sig .tc := ⟨.hbm, 61, rfl⟩
abbrev main_v34_1 : Ref sig .tc := ⟨.hbm, 62, rfl⟩
abbrev main_v34_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v2 : BitVec 32 := Scalar.muli arg11 c512_i32
  v2
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v2 : BitVec 32 := Scalar.muli arg11 c512_i32
  let v3 : BitVec 32 := v2
  let v4 : Index := Scalar.indexCast v3
  let c0 : Index := 0#32
  ![v4.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg11 : BitVec 32 := Scf.iv c0_i32_1 c1_i32_3 k0_t2
  let c512_i32 : BitVec 32 := 512#32
  let v2 : BitVec 32 := Scalar.muli arg11 c512_i32
  v2
def k0_off2 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c512_i32 : BitVec 32 := 512#32
  let v2 : BitVec 32 := Scalar.muli arg11 c512_i32
  let v3 : BitVec 32 := v2
  let v4 : Index := Scalar.indexCast v3
  let c0 : Index := 0#32
  ![v4.toNat, 0]
def k0_mult3 (k0_t2 : Fin k0_t2_loop.trips) : BitVec 32 :=
  let c0_i32_1 : BitVec 32 := 0#32
  let c1_i32_3 : BitVec 32 := 1#32
  let arg11 : BitVec 32 := Scf.iv c0_i32_1 c1_i32_3 k0_t2
  let c512_i32_6 : BitVec 32 := 512#32
  let v9 : BitVec 32 := Scalar.muli arg11 c512_i32_6
  v9
def k0_off3 (k0_t2 : Fin k0_t2_loop.trips) : Fin 3 → Nat :=
  let c0_24 : Index := 0#32
  let c0_i32_1 : BitVec 32 := 0#32
  let c1_i32_3 : BitVec 32 := 1#32
  let arg11 : BitVec 32 := Scf.iv c0_i32_1 c1_i32_3 k0_t2
  let c512_i32_6 : BitVec 32 := 512#32
  let v9 : BitVec 32 := Scalar.muli arg11 c512_i32_6
  let v10 : BitVec 32 := v9
  let v69 : Index := Scalar.indexCast v10
  let c0_25 : Index := 0#32
  ![0, v69.toNat, 0]
@[reducible] def k0_t3_loop (k0_t2 : Fin k0_t2_loop.trips) : Scf.Loop 32 :=
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c8_i32_34 : BitVec 32 := 8#32
  let v95 : BitVec 32 := Scalar.subi c8_i32_34 v94
  let c1_i32_35 : BitVec 32 := 1#32
  let v97 : BitVec 32 := Scalar.divsi v95 c1_i32_35
  let v98 : BitVec 32 := Scalar.muli v97 c1_i32_35
  let v99 : BitVec 32 := Scalar.addi v94 v98
  let c1_i32_36 : BitVec 32 := 1#32
  ⟨v94, v99, c1_i32_36⟩
def k0_mult4 (k0_t2 : Fin k0_t2_loop.trips) (k0_t3 : Fin (k0_t3_loop k0_t2).trips) : BitVec 32 :=
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c1_i32_36 : BitVec 32 := 1#32
  let arg12 : BitVec 32 := Scf.iv v94 c1_i32_36 k0_t3
  let c512_i32_40 : BitVec 32 := 512#32
  let v106 : BitVec 32 := Scalar.muli arg12 c512_i32_40
  v106
def k0_off4 (k0_t2 : Fin k0_t2_loop.trips) (k0_t3 : Fin (k0_t3_loop k0_t2).trips) : Fin 2 → Nat :=
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c1_i32_36 : BitVec 32 := 1#32
  let arg12 : BitVec 32 := Scf.iv v94 c1_i32_36 k0_t3
  let c512_i32_40 : BitVec 32 := 512#32
  let v106 : BitVec 32 := Scalar.muli arg12 c512_i32_40
  let v107 : BitVec 32 := v106
  let v108 : Index := Scalar.indexCast v107
  let c0_41 : Index := 0#32
  ![v108.toNat, 0]
def k0_off5 (k0_t2 : Fin k0_t2_loop.trips) (k0_t3 : Fin (k0_t3_loop k0_t2).trips) : Fin 3 → Nat :=
  let c0_44 : Index := 0#32
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c1_i32_36 : BitVec 32 := 1#32
  let arg12 : BitVec 32 := Scf.iv v94 c1_i32_36 k0_t3
  let c512_i32_40 : BitVec 32 := 512#32
  let v106 : BitVec 32 := Scalar.muli arg12 c512_i32_40
  let v107 : BitVec 32 := v106
  let v113 : Index := Scalar.indexCast v107
  let c0_45 : Index := 0#32
  ![0, v113.toNat, 0]
@[reducible] def k0_t4_loop (k0_t2 : Fin k0_t2_loop.trips) : Scf.Loop 32 :=
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c8_i32_34 : BitVec 32 := 8#32
  let v95 : BitVec 32 := Scalar.subi c8_i32_34 v94
  let c1_i32_35 : BitVec 32 := 1#32
  let v97 : BitVec 32 := Scalar.divsi v95 c1_i32_35
  let v98 : BitVec 32 := Scalar.muli v97 c1_i32_35
  let v99 : BitVec 32 := Scalar.addi v94 v98
  let v96 : BitVec 32 := Scalar.addi v94 v95
  let c1_i32_37 : BitVec 32 := 1#32
  ⟨v99, v96, c1_i32_37⟩
def k0_mult5 (k0_t2 : Fin k0_t2_loop.trips) (k0_t4 : Fin (k0_t4_loop k0_t2).trips) : BitVec 32 :=
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c8_i32_34 : BitVec 32 := 8#32
  let v95 : BitVec 32 := Scalar.subi c8_i32_34 v94
  let c1_i32_35 : BitVec 32 := 1#32
  let v97 : BitVec 32 := Scalar.divsi v95 c1_i32_35
  let v98 : BitVec 32 := Scalar.muli v97 c1_i32_35
  let v99 : BitVec 32 := Scalar.addi v94 v98
  let c1_i32_37 : BitVec 32 := 1#32
  let arg12 : BitVec 32 := Scf.iv v99 c1_i32_37 k0_t4
  let c512_i32_40 : BitVec 32 := 512#32
  let v106 : BitVec 32 := Scalar.muli arg12 c512_i32_40
  v106
def k0_off6 (k0_t2 : Fin k0_t2_loop.trips) (k0_t4 : Fin (k0_t4_loop k0_t2).trips) : Fin 2 → Nat :=
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c8_i32_34 : BitVec 32 := 8#32
  let v95 : BitVec 32 := Scalar.subi c8_i32_34 v94
  let c1_i32_35 : BitVec 32 := 1#32
  let v97 : BitVec 32 := Scalar.divsi v95 c1_i32_35
  let v98 : BitVec 32 := Scalar.muli v97 c1_i32_35
  let v99 : BitVec 32 := Scalar.addi v94 v98
  let c1_i32_37 : BitVec 32 := 1#32
  let arg12 : BitVec 32 := Scf.iv v99 c1_i32_37 k0_t4
  let c512_i32_40 : BitVec 32 := 512#32
  let v106 : BitVec 32 := Scalar.muli arg12 c512_i32_40
  let v107 : BitVec 32 := v106
  let v108 : Index := Scalar.indexCast v107
  let c0_41 : Index := 0#32
  ![v108.toNat, 0]
def k0_off7 (k0_t2 : Fin k0_t2_loop.trips) (k0_t4 : Fin (k0_t4_loop k0_t2).trips) : Fin 3 → Nat :=
  let c0_44 : Index := 0#32
  let c0_i32_1 : BitVec 32 := 0#32
  let c1_i32_3 : BitVec 32 := 1#32
  let arg11 : BitVec 32 := Scf.iv c0_i32_1 c1_i32_3 k0_t2
  let c1_i32_33 : BitVec 32 := 1#32
  let v94 : BitVec 32 := Scalar.addi arg11 c1_i32_33
  let c8_i32_34 : BitVec 32 := 8#32
  let v95 : BitVec 32 := Scalar.subi c8_i32_34 v94
  let c1_i32_35 : BitVec 32 := 1#32
  let v97 : BitVec 32 := Scalar.divsi v95 c1_i32_35
  let v98 : BitVec 32 := Scalar.muli v97 c1_i32_35
  let v99 : BitVec 32 := Scalar.addi v94 v98
  let c1_i32_37 : BitVec 32 := 1#32
  let arg12 : BitVec 32 := Scf.iv v99 c1_i32_37 k0_t4
  let c512_i32_40 : BitVec 32 := 512#32
  let v106 : BitVec 32 := Scalar.muli arg12 c512_i32_40
  let v107 : BitVec 32 := v106
  let v113 : Index := Scalar.indexCast v107
  let c0_45 : Index := 0#32
  ![0, v113.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S8x4096x4096, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S8x4096x4096, .i1⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .i1⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S8x4096, .f32⟩
  | .hbm, ⟨53, _⟩ => ⟨S_, .f32⟩
  | .hbm, ⟨54, _⟩ => ⟨S8x4096, .f32⟩
  | .hbm, ⟨55, _⟩ => ⟨S8x4096, .i1⟩
  | .hbm, ⟨56, _⟩ => ⟨S_, .f32⟩
  | .hbm, ⟨57, _⟩ => ⟨S8x4096, .f32⟩
  | .hbm, ⟨58, _⟩ => ⟨S8x4096, .i1⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S8x4096, .f32⟩
  | .hbm, ⟨63, _⟩ => ⟨S_, .f32⟩
  | .hbm, ⟨64, _⟩ => ⟨S8x4096, .f32⟩
  | .hbm, ⟨65, _⟩ => ⟨S8x4096, .f32⟩
  | .hbm, ⟨66, _⟩ => ⟨S8x4096, .f32⟩
  | .hbm, ⟨67, _⟩ => ⟨S8x4096x1, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x4096, .f32⟩
  | .hbm, ⟨75, _⟩ => ⟨S8x4096x4096, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x128x4096, .f32⟩
  | .hbm, ⟨81, _⟩ => ⟨S4096x8x128, .f32⟩
  | .hbm, ⟨82, _⟩ => ⟨S4096x1024, .f32⟩
  | .hbm, ⟨83, _⟩ => ⟨S4096x8x128, .f32⟩
  | .hbm, ⟨84, _⟩ => ⟨S8x128x4096, .f32⟩
  | .hbm, ⟨85, _⟩ => ⟨S8x4096x4096, .f32⟩
  | .hbm, ⟨86, _⟩ => ⟨S8x128x4096, .f32⟩
  | .hbm, ⟨87, _⟩ => ⟨S4096x8x128, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S8x4096x1, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096, .f32⟩
  | .hbm, ⟨99, _⟩ => ⟨S8x4096x4096, .f32⟩
  | .hbm, ⟨100, _⟩ => ⟨S8x4096x4096, .f32⟩
  | .hbm, ⟨101, _⟩ => ⟨S8x4096x4096, .f32⟩
  | .hbm, ⟨102, _⟩ => ⟨S_, .f32⟩
  | .hbm, ⟨103, _⟩ => ⟨S8x4096x4096, .f32⟩
  | .hbm, ⟨104, _⟩ => ⟨S8x4096x4096, .f32⟩
  | .hbm, ⟨105, _⟩ => ⟨S8x4096x128, .f32⟩
  | .hbm, ⟨106, _⟩ => ⟨S4096x8x128, .f32⟩
  | .hbm, ⟨107, _⟩ => ⟨S8x4096x128, .f32⟩
  | .hbm, ⟨108, _⟩ => ⟨S4096x8x128, .f32⟩
  | .hbm, ⟨109, _⟩ => ⟨S4096x1024, .f32⟩
  | .hbm, ⟨110, _⟩ => ⟨S4096x1024, .f32⟩
  | .hbm, ⟨111, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_call1_v0 : Ref sig .tc := ⟨.hbm, 36, rfl⟩
abbrev main_v14_1 : Ref sig .tc := ⟨.hbm, 37, rfl⟩
abbrev main_call1_v2 : Ref sig .tc := ⟨.hbm, 38, rfl⟩
abbrev main_v14_0 : Ref sig .tc := ⟨.hbm, 39, rfl⟩
abbrev main_call1_cst : Ref sig .tc := ⟨.hbm, 40, rfl⟩
abbrev main_v14_2 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call2_cst : Ref sig .tc := ⟨.hbm, 102, rfl⟩
abbrev main_call2_v0 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩

abbrev nD : Nat := 1
abbrev τ : Topo := Topo.v7x

variable {F : FTy → Type} [FloatOps F]

def κ : String → Option EReal := fun
  | "mask" => some ⊥
  | _ => none
-- ==== Kernel2.lean ====
abbrev S4096x3840 : Shape := ⟨2, ![4096, 3840]⟩
abbrev S2x2x1024 : Shape := ⟨3, ![2, 2, 1024]⟩
abbrev S4096x1024 : Shape := ⟨2, ![4096, 1024]⟩
abbrev S2x1024 : Shape := ⟨2, ![2, 1024]⟩
abbrev S512x2048 : Shape := ⟨2, ![512, 2048]⟩
abbrev S512x1024 : Shape := ⟨2, ![512, 1024]⟩
abbrev S1x2x1024 : Shape := ⟨3, ![1, 2, 1024]⟩
abbrev S1x1024 : Shape := ⟨2, ![1, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x3840, .bf16⟩
  | .hbm, ⟨1, _⟩ => ⟨S2x2x1024, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x3840, .bf16⟩
  | .hbm, ⟨8, _⟩ => ⟨S2x1024, .f32⟩
  | .local _ .vmem, ⟨0, _⟩ => ⟨S512x2048, .bf16⟩
  | .local _ .vmem, ⟨1, _⟩ => ⟨S512x2048, .bf16⟩
  | .local _ .vmem, ⟨2, _⟩ => ⟨S2x2x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S2x1024, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x3840 : Shape := ⟨2, ![4096, 3840]⟩
abbrev S2x2x1024 : Shape := ⟨3, ![2, 2, 1024]⟩
abbrev S4096x1024 : Shape := ⟨2, ![4096, 1024]⟩
abbrev S1x2x1024 : Shape := ⟨3, ![1, 2, 1024]⟩
abbrev S2x1024 : Shape := ⟨2, ![2, 1024]⟩
abbrev S4096x2048 : Shape := ⟨2, ![4096, 2048]⟩
abbrev S4096x2x1024 : Shape := ⟨3, ![4096, 2, 1024]⟩
abbrev S_ : Shape := ⟨0, ![]⟩
abbrev S4096x1x1024 : Shape := ⟨3, ![4096, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S2x2x1024, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3840, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x2x1024, .f32⟩
  | .hbm, ⟨10, _⟩ => ⟨S2x1024, .f32⟩
  | .hbm, ⟨11, _⟩ => ⟨S4096x2048, .f32⟩
  | .hbm, ⟨12, _⟩ => ⟨S4096x2x1024, .f32⟩
  | .hbm, ⟨13, _⟩ => ⟨S1x2x1024, .f32⟩
  | .hbm, ⟨14, _⟩ => ⟨S4096x2x1024, .f32⟩
  | .hbm, ⟨15, _⟩ => ⟨S4096x2x1024, .f32⟩
  | .hbm, ⟨16, _⟩ => ⟨S4096x2x1024, .f32⟩
  | .hbm, ⟨17, _⟩ => ⟨S4096x2x1024, .f32⟩
  | .hbm, ⟨18, _⟩ => ⟨S_, .f32⟩
  | .hbm, ⟨19, _⟩ => ⟨S4096x2x1024, .f32⟩
  | .hbm, ⟨20, _⟩ => ⟨S4096x2x1024, .f32⟩
  | .hbm, ⟨21, _⟩ => ⟨S_, .f32⟩
  | .hbm, ⟨22, _⟩ => ⟨S4096x2x1024, .f32⟩
  | .hbm, ⟨23, _⟩ => ⟨S4096x2x1024, .f32⟩
  | .hbm, ⟨24, _⟩ => ⟨S_, .f32⟩
  | .hbm, ⟨25, _⟩ => ⟨S4096x2x1024, .f32⟩
  | .hbm, ⟨26, _⟩ => ⟨S4096x2x1024, .f32⟩
  | .hbm, ⟨27, _⟩ => ⟨S4096x2x1024, .f32⟩
  | .hbm, ⟨28, _⟩ => ⟨S4096x1x1024, .f32⟩
  | .hbm, ⟨29, _⟩ => ⟨S4096x1024, .f32⟩
  | .hbm, ⟨30, _⟩ => ⟨S4096x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S_, .f32⟩
  | .hbm, ⟨39, _⟩ => ⟨S4096x2x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S_, .f32⟩
  | .hbm, ⟨44, _⟩ => ⟨S4096x2x1024, .f32⟩
  | .hbm, ⟨45, _⟩ => ⟨S4096x2x1024, .f32⟩
  | .hbm, ⟨46, _⟩ => ⟨S4096x2x1024, .f32⟩
  | .hbm, ⟨47, _⟩ => ⟨S_, .f32⟩
  | .hbm, ⟨48, _⟩ => ⟨S2x1024, .f32⟩
  | .hbm, ⟨49, _⟩ => ⟨S1x2x1024, .f32⟩
  | .hbm, ⟨50, _⟩ => ⟨S_, .f32⟩
  | .hbm, ⟨51, _⟩ => ⟨S2x1024, .f32⟩
  | .hbm, ⟨52, _⟩ => ⟨S4096x2048, .f32⟩
  | .hbm, ⟨53, _⟩ => ⟨S_, .f32⟩
  | .hbm, ⟨54, _⟩ => ⟨S4096x3840, .f32⟩
  | .hbm, ⟨55, _⟩ => ⟨S4096x1024, .bf16⟩
  | .hbm, ⟨56, _⟩ => ⟨S4096x1024, .bf16⟩
  | .hbm, ⟨57, _⟩ => ⟨S4096x3840, .bf16⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .f32⟩
  | .local _ .vmem, ⟨4, _⟩ => ⟨S1x704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S4x704x4096 : Shape := ⟨3, ![4, 704, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4096x1024, .f32⟩
  | .hbm, ⟨5, _⟩ => ⟨S4x704x4096, .f32⟩
  | .hbm, ⟨6, _⟩ => ⟨S4x4096x704, .f32⟩
  | .hbm, ⟨7, _⟩ => ⟨S4x4096x704, .f32⟩
  | .hbm, ⟨8, _⟩ => ⟨S4x704x4096, .f32⟩
  | .hbm, ⟨9, _⟩ => ⟨S4x704x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x3840 : Shape := ⟨2, ![4096, 3840]⟩
abbrev S3840x1024 : Shape := ⟨2, ![3840, 1024]⟩
abbrev S4096x1024 : Shape := ⟨2, ![4096, 1024]⟩
abbrev S512x3840 : Shape := ⟨2, ![512, 3840]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3840, .bf16⟩
  | .hbm, ⟨1, _⟩ => ⟨S3840x1024, .bf16⟩
  | .hbm, ⟨2, _⟩ => ⟨S4096x1024, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S512x1024, .f32⟩
  | .local _ .vmem, ⟨4, _⟩ => ⟨S512x1024, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference4Ideal.lean ====
abbrev S4096x3840 : Shape := ⟨2, ![4096, 3840]⟩
abbrev S3840x1024 : Shape := ⟨2, ![3840, 1024]⟩
abbrev S_ : Shape := ⟨0, ![]⟩
abbrev S4096x1024 : Shape := ⟨2, ![4096, 1024]⟩
abbrev S1024x3840 : Shape := ⟨2, ![1024, 3840]⟩

abbrev nBuf : Space → Nat
  | .hbm => 9
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S3840x1024, .bf16⟩
  | .hbm, ⟨2, _⟩ => ⟨S_, .f32⟩
  | .hbm, ⟨3, _⟩ => ⟨S4096x1024, .f32⟩
  | .hbm, ⟨4, _⟩ => ⟨S3840x1024, .f32⟩
  | .hbm, ⟨5, _⟩ => ⟨S1024x3840, .f32⟩
  | .hbm, ⟨6, _⟩ => ⟨S4096x3840, .f32⟩
  | .hbm, ⟨7, _⟩ => ⟨S4096x3840, .f32⟩
  | .hbm, ⟨8, _⟩ => ⟨S4096x1024, .f32⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x3840 : Shape := ⟨2, ![4096, 3840]⟩
abbrev S4096x1024 : Shape := ⟨2, ![4096, 1024]⟩
abbrev S3840x1024 : Shape := ⟨2, ![3840, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3840, .bf16⟩
  | .hbm, ⟨1, _⟩ => ⟨S4096x1024, .bf16⟩
  | .hbm, ⟨2, _⟩ => ⟨S3840x1024, .f32⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .f32⟩
  | .local _ .vmem, ⟨4, _⟩ => ⟨S768x1024, .f32⟩
  | _, _ => ⟨S4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 5, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference5Ideal.lean ====
abbrev S4096x3840 : Shape := ⟨2, ![4096, 3840]⟩
abbrev S4096x1024 : Shape := ⟨2, ![4096, 1024]⟩
abbrev S_ : Shape := ⟨0, ![]⟩
abbrev S3840x1024 : Shape := ⟨2, ![3840, 1024]⟩
abbrev S1024x3840 : Shape := ⟨2, ![1024, 3840]⟩

abbrev nBuf : Space → Nat
  | .hbm => 11
  | .vmem => 0
  | .smem => 0
  | _ => 0

abbrev bufTy : (tb : Table) → Fin (tcTables nBuf tb) → BufTy
  | .hbm, ⟨0, _⟩ => ⟨S4096x3840, .bf16⟩
  | .hbm, ⟨1, _⟩ => ⟨S4096x1024, .bf16⟩
  | .hbm, ⟨2, _⟩ => ⟨S_, .f32⟩
  | .hbm, ⟨3, _⟩ => ⟨S3840x1024, .f32⟩
  | .hbm, ⟨4, _⟩ => ⟨S4096x1024, .f32⟩
  | .hbm, ⟨5, _⟩ => ⟨S1024x3840, .f32⟩
  | .hbm, ⟨6, _⟩ => ⟨S4096x3840, .f32⟩
  | .hbm, ⟨7, _⟩ => ⟨S4096x3840, .f32⟩
  | .hbm, ⟨8, _⟩ => ⟨S3840x1024, .f32⟩
  | .hbm, ⟨9, _⟩ => ⟨S1024x3840, .f32⟩
  | .hbm, ⟨10, _⟩ => ⟨S3840x1024, .f32⟩
  | _, _ => ⟨S4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S3840x1024 : Shape := ⟨2, ![3840, 1024]⟩
abbrev S4096x3840 : Shape := ⟨2, ![4096, 3840]⟩
abbrev S512x1024 : Shape := ⟨2, ![512, 1024]⟩
abbrev S512x3840 : Shape := ⟨2, ![512, 3840]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S3840x1024, .bf16⟩
  | .hbm, ⟨2, _⟩ => ⟨S4096x3840, .bf16⟩
  | .local _ .vmem, ⟨0, _⟩ => ⟨S512x1024, .bf16⟩
  | .local _ .vmem, ⟨1, _⟩ => ⟨S512x1024, .bf16⟩
  | .local _ .vmem, ⟨2, _⟩ => ⟨S3840x1024, .bf16⟩
  | .local _ .vmem, ⟨3, _⟩ => ⟨S512x3840, .bf16⟩
  | .local _ .vmem, ⟨4, _⟩ => ⟨S512x3840, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x3840 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference6Ideal.lean ====
abbrev S4096x1024 : Shape := ⟨2, ![4096, 1024]⟩
abbrev S3840x1024 : Shape := ⟨2, ![3840, 1024]⟩
abbrev S1024x3840 : Shape := ⟨2, ![1024, 3840]⟩
abbrev S4096x3840 : Shape := ⟨2, ![4096, 3840]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3840x1024, .bf16⟩
  | .hbm, ⟨2, _⟩ => ⟨S4096x1024, .f32⟩
  | .hbm, ⟨3, _⟩ => ⟨S3840x1024, .f32⟩
  | .hbm, ⟨4, _⟩ => ⟨S1024x3840, .f32⟩
  | .hbm, ⟨5, _⟩ => ⟨S4096x3840, .f32⟩
  | .hbm, ⟨6, _⟩ => ⟨S4096x3840, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference8Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S2x1024 : Shape := ⟨2, ![2, 1024]⟩
abbrev S4x704x1024 : Shape := ⟨3, ![4, 704, 1024]⟩
abbrev S4x4096x704 : Shape := ⟨3, ![4, 4096, 704]⟩
abbrev S512x1024 : Shape := ⟨2, ![512, 1024]⟩
abbrev S1x704x1024 : Shape := ⟨3, ![1, 704, 1024]⟩
abbrev S1x512x704 : Shape := ⟨3, ![1, 512, 704]⟩
abbrev S512 : Shape := ⟨1, ![512]⟩
abbrev S512x1 : Shape := ⟨2, ![512, 1]⟩
abbrev S1x1024 : Shape := ⟨2, ![1, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S4096x1024, .f32⟩
  | .hbm, ⟨6, _⟩ => ⟨S4x4096x704, .bf16⟩
  | .hbm, ⟨7, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S512x1024, .bf16⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_52 : BitVec 32 := 0#32
  let v69 : BitVec 1 := Scalar.cmpi .ne v68 c0_i32_52
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S4096x1024 : Shape := ⟨2, ![4096, 1024]⟩
abbrev S2x1024 : Shape := ⟨2, ![2, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩
abbrev S4x704x4096 : Shape := ⟨3, ![4, 704, 4096]⟩
abbrev S4x4096x704 : Shape := ⟨3, ![4, 4096, 704]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4x704x4096, .f32⟩
  | .hbm, ⟨27, _⟩ => ⟨S4x4096x704, .f32⟩
  | .hbm, ⟨28, _⟩ => ⟨S4x704x4096, .f32⟩
  | .hbm, ⟨29, _⟩ => ⟨S4x4096x704, .f32⟩
  | .hbm, ⟨30, _⟩ => ⟨S4x4096x704, .f32⟩
  | .hbm, ⟨31, _⟩ => ⟨S4x4096x704, .f32⟩
  | .hbm, ⟨32, _⟩ => ⟨S_, .f32⟩
  | .hbm, ⟨33, _⟩ => ⟨S4x4096x704, .f32⟩
  | .hbm, ⟨34, _⟩ => ⟨S4x4096x704, .f32⟩
  | .hbm, ⟨35, _⟩ => ⟨S_, .f32⟩
  | .hbm, ⟨36, _⟩ => ⟨S4x4096x704, .f32⟩
  | .hbm, ⟨37, _⟩ => ⟨S4x4096x704, .f32⟩
  | .hbm, ⟨38, _⟩ => ⟨S4x4096x704, .f32⟩
  | .hbm, ⟨39, _⟩ => ⟨S4x4096x704, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4x4096x704, .bf16⟩
  | .hbm, ⟨46, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference11Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference12Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S4096x512, .bf16⟩
  | .local _ .vmem, ⟨1, _⟩ => ⟨S4096x1024, .bf16⟩
  | .local _ .vmem, ⟨2, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference13Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference14Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference15Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference16Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x1024 : Shape := ⟨2, ![4096, 1024]⟩
abbrev S4096x256 : Shape := ⟨2, ![4096, 256]⟩
abbrev S1024x256 : Shape := ⟨2, ![1024, 256]⟩
abbrev S4096x512 : Shape := ⟨2, ![4096, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .f32⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S512x256, .f32⟩
  | .local _ .vmem, ⟨4, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference17Ideal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S1024x256, .f32⟩
  | .hbm, ⟨4, _⟩ => ⟨S4096x256, .f32⟩
  | .hbm, ⟨5, _⟩ => ⟨S256x1024, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .f32⟩
  | .local _ .vmem, ⟨0, _⟩ => ⟨S4096x256, .bf16⟩
  | .local _ .vmem, ⟨1, _⟩ => ⟨S4096x1024, .bf16⟩
  | .local _ .vmem, ⟨2, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference18Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Gate.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Kernel2Ideal.Gate

open Idealize.ShloMosaic Idealize.ShloMosaic.TcCoe Idealize.SL.Sem
open Idealize.ShloMosaic.Pipeline (Dat)
open Cert.Kernel2Ideal Cert.Kernel2Ideal.Gen Cert.Reference2Ideal.Read

variable (m : (ℓ : Loc nD τ sig) → Buf (Elt Ideal) ℓ)

/-- The block each window stages at grid point `t`. -/
theorem idx : ∀ t : Fin cfg0.N, win0_0.index t = ![t.val, 0] ∧ win0_1.index t = ![0, 0, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![0, 0] :=
  (by decide +kernel : ∀ t : Fin grid0.N, _)

/-- The staged block of the projection, read off the argument array. -/
theorem X_eq (c : Dev nD) (t : Fin cfg0.N) : X0_0 m c t = fun j : S512x2048.Idx =>
    m ((c : Thread nD τ).loc main_arg0) (ix2 ⟨t.val * 512 + (j 0).val, by have := t.isLt; have h : cfg0.N = 8 := N_0; have : (j 0).val < 512 := (j 0).isLt; omega⟩
      ⟨(j 1).val, by have : (j 1).val < 2048 := (j 1).isLt; omega⟩) := by
  funext j
  unfold X0_0 Pipeline.Window.fill
  rw [dif_pos (moved0_0 t j)]
  blk_ext [iblk, V, idx t]

/-- The cotangent of the convolution branch: the first gate times the incoming cotangent. -/
theorem final5 (c : Dev nD) : (dats m 0 c).arrAt 5 (cfgs 0).N
    = val_main_v42 (F := Ideal) (m ((c : Thread nD τ).loc main_arg0)) (m ((c : Thread nD τ).loc main_arg1)) (m ((c : Thread nD τ).loc main_arg4)) := by
  refine (dats m 0 c).arrAt_eq_of_covers 5 _ (by decide +kernel) fun t _ y => ?_
  blk_simp
  rw [after0_5]
  by_cases h : t.val % 8 = 0
  · rw [outsAt0_A m c t h]
    frame_out
    rw [X_eq m c t]
    pointwise [k0_pay1, k0_pay2, k0_pay3, k0_pay4, k0_pay5, k0_pay6, k0_pay7, k0_pay8, k0_pay9, k0_pay10, k0_pay11, k0_pay12, k0_pay13, val_main_v42, val_main_v31, val_main_v21, val_main_v20, val_main_v16, val_main_v15, val_main_cst_0, val_main_v14, val_main_v13, val_main_cst, val_main_v12, val_main_v11, val_main_v10, val_main_v9, val_main_v8, val_main_v7, val_main_v6, val_main_v5, val_main_v4, val_main_v3, val_main_v2, val_main_v1, val_main_v0]
    simp only [sub_eq_add_neg, zero_add]
    rw [mul_comm]
    blk_point [iblk, V, idx t]
  · rw [outsAt0_B m c t h]
    frame_out
    rw [X_eq m c t]
    pointwise [k0_pay1, k0_pay2, k0_pay3, k0_pay4, k0_pay5, k0_pay6, k0_pay7, k0_pay8, k0_pay9, k0_pay10, k0_pay11, k0_pay12, k0_pay13, val_main_v42, val_main_v31, val_main_v21, val_main_v20, val_main_v16, val_main_v15, val_main_cst_0, val_main_v14, val_main_v13, val_main_cst, val_main_v12, val_main_v11, val_main_v10, val_main_v9, val_main_v8, val_main_v7, val_main_v6, val_main_v5, val_main_v4, val_main_v3, val_main_v2, val_main_v1, val_main_v0]
    simp only [sub_eq_add_neg, zero_add]
    rw [mul_comm]
    blk_point [iblk, V, idx t]

/-- The cotangent of the attention branch: the second gate times the incoming cotangent. -/
theorem final6 (c : Dev nD) : (dats m 0 c).arrAt 6 (cfgs 0).N
    = val_main_v43 (F := Ideal) (m ((c : Thread nD τ).loc main_arg0)) (m ((c : Thread nD τ).loc main_arg1)) (m ((c : Thread nD τ).loc main_arg4)) := by
  refine (dats m 0 c).arrAt_eq_of_covers 6 _ (by decide +kernel) fun t _ y => ?_
  blk_simp
  rw [after0_6]
  by_cases h : t.val % 8 = 0
  · rw [outsAt0_A m c t h]
    frame_out
    rw [X_eq m c t]
    pointwise [k0_pay1, k0_pay2, k0_pay3, k0_pay4, k0_pay5, k0_pay6, k0_pay7, k0_pay8, k0_pay9, k0_pay10, k0_pay11, k0_pay12, k0_pay13, val_main_v43, val_main_v27, val_main_v24, val_main_v23, val_main_v16, val_main_v15, val_main_cst_0, val_main_v14, val_main_v13, val_main_cst, val_main_v12, val_main_v11, val_main_v10, val_main_v9, val_main_v8, val_main_v7, val_main_v6, val_main_v5, val_main_v4, val_main_v3, val_main_v2, val_main_v1, val_main_v0]
    simp only [sub_eq_add_neg, zero_add]
    rw [mul_comm]
    blk_point [iblk, V, idx t]
  · rw [outsAt0_B m c t h]
    frame_out
    rw [X_eq m c t]
    pointwise [k0_pay1, k0_pay2, k0_pay3, k0_pay4, k0_pay5, k0_pay6, k0_pay7, k0_pay8, k0_pay9, k0_pay10, k0_pay11, k0_pay12, k0_pay13, val_main_v43, val_main_v27, val_main_v24, val_main_v23, val_main_v16, val_main_v15, val_main_cst_0, val_main_v14, val_main_v13, val_main_cst, val_main_v12, val_main_v11, val_main_v10, val_main_v9, val_main_v8, val_main_v7, val_main_v6, val_main_v5, val_main_v4, val_main_v3, val_main_v2, val_main_v1, val_main_v0]
    simp only [sub_eq_add_neg, zero_add]
    rw [mul_comm]
    blk_point [iblk, V, idx t]

end Cert.Kernel2Ideal.Gate

end

end
-- ==== Proof.GateB.lean ====
module

public import proofs.«01_k».proof.Proof.Gen.Kernel2Ideal.Value
public import proofs.«01_k».proof.Proof.Gen.Reference2Ideal.Read
public import proofs.«01_k».proof.Proof.Gate
public import Idealize.ShloMosaic.Lib.Pipeline.ValueKit
public import Idealize.ShloMosaic.Lib.Pointwise

@[expose] public section

set_option maxRecDepth 16384

noncomputable section

namespace Cert.Kernel2Ideal.Gate

open Idealize.ShloMosaic Idealize.ShloMosaic.TcCoe Idealize.SL.Sem
open Idealize.ShloMosaic.Pipeline (Dat)
open Cert.Kernel2Ideal Cert.Kernel2Ideal.Gen Cert.Reference2Ideal.Read

variable (m : (ℓ : Loc nD τ sig) → Buf (Elt Ideal) ℓ)

/-- The gradient entering the first gate. -/
theorem gate_lo (X0 : FVec Ideal S4096x3840 .bf16) (X1 : FVec Ideal S2x2x1024 .f32) (X2 X3 X4 : FVec Ideal S4096x1024 .bf16) (r : Fin 4096) (l : Fin 1024) :
    val_main_v36 (F := Ideal) X0 X1 X2 X3 X4 (ix3 r 0 l)
      = X4 (ix2 r l) * X2 (ix2 r l) * Ideal.div 1 (1 + Ideal.exp (-(X0 (ix2 r ⟨l.val, by omega⟩) + X1 (ix3 1 0 l)))) * (1 + -Ideal.div 1 (1 + Ideal.exp (-(X0 (ix2 r ⟨l.val, by omega⟩) + X1 (ix3 1 0 l))))) := by
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_v23, val_main_v24, val_main_v25, val_main_v26, val_main_v27, val_main_v28, val_main_v29, val_main_cst_2, val_main_v30, val_main_v31, val_main_v32, val_main_v33, val_main_cst_3, val_main_v34, val_main_v35, val_main_v36]
  simp only [zero_add, add_zero, sub_eq_add_neg]
  rw [mul_assoc (_ * _) _ (1 + _)]

/-- The gradient entering the second gate. -/
theorem gate_hi (X0 : FVec Ideal S4096x3840 .bf16) (X1 : FVec Ideal S2x2x1024 .f32) (X2 X3 X4 : FVec Ideal S4096x1024 .bf16) (r : Fin 4096) (l : Fin 1024) :
    val_main_v36 (F := Ideal) X0 X1 X2 X3 X4 (ix3 r 1 l)
      = X4 (ix2 r l) * X3 (ix2 r l) * Ideal.div 1 (1 + Ideal.exp (-(X0 (ix2 r ⟨1024 + l.val, by omega⟩) + X1 (ix3 1 1 l)))) * (1 + -Ideal.div 1 (1 + Ideal.exp (-(X0 (ix2 r ⟨1024 + l.val, by omega⟩) + X1 (ix3 1 1 l))))) := by
  pointwise [val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_cst_1, val_main_v17, val_main_v18, val_main_v19, val_main_v20, val_main_v21, val_main_v22, val_main_v23, val_main_v24, val_main_v25, val_main_v26, val_main_v27, val_main_v28, val_main_v29, val_main_cst_2, val_main_v30, val_main_v31, val_main_v32, val_main_v33, val_main_cst_3, val_main_v34, val_main_v35, val_main_v36]
  simp only [zero_add, add_zero, sub_eq_add_neg]
  rw [mul_assoc (_ * _) _ (1 + _)]

/-- Column `l` of the projection's gradient is column `l` of gate 0. -/
theorem cols_lo (X0 : FVec Ideal S4096x3840 .bf16) (X1 : FVec Ideal S2x2x1024 .f32) (X2 X3 X4 : FVec Ideal S4096x1024 .bf16)
    (j : S4096x3840.Idx) (h1 : (j 1 : ℕ) < 1024) :
    val_main_v44 (F := Ideal) X0 X1 X2 X3 X4 j
      = X4 (ix2 (j 0) ⟨(j 1).val, by omega⟩) * X2 (ix2 (j 0) ⟨(j 1).val, by omega⟩) * Ideal.div 1 (1 + Ideal.exp (-(X0 (ix2 (j 0) ⟨(j 1).val, by omega⟩) + X1 (ix3 1 0 ⟨(j 1).val, by omega⟩)))) * (1 + -Ideal.div 1 (1 + Ideal.exp (-(X0 (ix2 (j 0) ⟨(j 1).val, by omega⟩) + X1 (ix3 1 0 ⟨(j 1).val, by omega⟩))))) := by
  idx_vars j
  pointwise at h1
  pointwise [val_main_v44, val_main_v41, val_main_v40]
  rw [dif_pos (by omega)]
  refine Eq.trans ?_ (gate_lo X0 X1 X2 X3 X4 j0 ⟨j1.val, h1⟩)
  blk_ext []

/-- Column `1024 + l` of the projection's gradient is column `l` of gate 1. -/
theorem cols_hi (X0 : FVec Ideal S4096x3840 .bf16) (X1 : FVec Ideal S2x2x1024 .f32) (X2 X3 X4 : FVec Ideal S4096x1024 .bf16)
    (j : S4096x3840.Idx) (h0 : 1024 ≤ (j 1 : ℕ)) (h1 : (j 1 : ℕ) < 2048) :
    val_main_v44 (F := Ideal) X0 X1 X2 X3 X4 j
      = X4 (ix2 (j 0) ⟨(j 1).val - 1024, by omega⟩) * X3 (ix2 (j 0) ⟨(j 1).val - 1024, by omega⟩) * Ideal.div 1 (1 + Ideal.exp (-(X0 (ix2 (j 0) ⟨1024 + ((j 1).val - 1024), by omega⟩) + X1 (ix3 1 1 ⟨(j 1).val - 1024, by omega⟩)))) * (1 + -Ideal.div 1 (1 + Ideal.exp (-(X0 (ix2 (j 0) ⟨1024 + ((j 1).val - 1024), by omega⟩) + X1 (ix3 1 1 ⟨(j 1).val - 1024, by omega⟩))))) := by
  idx_vars j
  pointwise at h0 h1
  pointwise [val_main_v44, val_main_v41, val_main_v40]
  rw [dif_pos (by omega)]
  refine Eq.trans ?_ (gate_hi X0 X1 X2 X3 X4 j0 ⟨j1.val - 1024, by omega⟩)
  blk_ext []

/-- The gradient of the gate columns of the projection. -/
theorem final7 (c : Dev nD) : (dats m 0 c).arrAt 7 (cfgs 0).N
    = fun i : S4096x3840.Idx => if (i 1 : ℕ) < 2048 then val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i
        else V m c main_v0_2 i := by
  refine (dats m 0 c).arrAt_eq_of_coversWhere 7 _ (fun β => β 1 = 0) (by decide +kernel) (fun t hf y => ?_)
    (fun j => by blk_simp [Pipeline.Window.cell_apply]; omega)
  blk_simp
  rw [after0_7]
  have hb : ((outsAt0 m c t.val t.isLt).2.2.1) = View.canon
      [⟨Rect.unit ![0, 1024] ![512, 1024] inb_S512x2048_S512x1024_0_1024,
          k0_pay4 (k0_pay9 (iblk m c 4 t))
            (k0_pay11 (View.ld (iblk m c 1 t) (Rect.unit ![1, 0, 0] ![1, 2, 1024] inb_S2x2x1024_S1x2x1024_1_0_0))
              (View.ld (X0_0 m c t) (Rect.unit ![0, 1024] ![512, 1024] inb_S512x2048_S512x1024_0_1024)))
            (iblk m c 3 t)⟩,
        ⟨Rect.unit ![0, 0] ![512, 1024] inb_S512x2048_S512x1024_0_0,
          k0_pay3 (k0_pay9 (iblk m c 4 t))
            (k0_pay10 (View.ld (iblk m c 1 t) (Rect.unit ![1, 0, 0] ![1, 2, 1024] inb_S2x2x1024_S1x2x1024_1_0_0))
              (View.ld (X0_0 m c t) (Rect.unit ![0, 0] ![512, 1024] inb_S512x2048_S512x1024_0_0)))
            (iblk m c 2 t)⟩] := by
    by_cases h : t.val % 8 = 0
    · rw [outsAt0_A m c t h]; frame_out; rfl
    · rw [outsAt0_B m c t h]; frame_out; rfl
  rw [hb, X_eq m c t]
  canon_tiles x h
  · replace h0 : (y 0 : ℕ) = x 0 := h0
    replace h1 : (y 1 : ℕ) = 1024 + x 1 := h1
    refine Eq.trans ?_ (cols_hi _ _ _ _ _ _ (by blk_simp [idx t]; omega) (by blk_simp [idx t]; omega)).symm
    pointwise [k0_pay1, k0_pay2, k0_pay3, k0_pay4, k0_pay5, k0_pay6, k0_pay7, k0_pay8, k0_pay9, k0_pay10, k0_pay11, k0_pay12, k0_pay13]
    simp only [sub_eq_add_neg, zero_add]
    blk_point [iblk, V, idx t]
  · replace h0 : (y 0 : ℕ) = x 0 := h0
    replace h1 : (y 1 : ℕ) = x 1 := h1
    refine Eq.trans ?_ (cols_lo _ _ _ _ _ _ (by blk_simp [idx t]; omega)).symm
    pointwise [k0_pay1, k0_pay2, k0_pay3, k0_pay4, k0_pay5, k0_pay6, k0_pay7, k0_pay8, k0_pay9, k0_pay10, k0_pay11, k0_pay12, k0_pay13]
    simp only [sub_eq_add_neg, zero_add]
    blk_point [iblk, V, idx t]

end Cert.Kernel2Ideal.Gate

end

end
-- ==== Proof.GateC.lean ====
module

public import proofs.«01_k».proof.Proof.Gen.Kernel2Ideal.Value
public import proofs.«01_k».proof.Proof.Gen.Reference2Ideal.Read
public import proofs.«01_k».proof.Proof.GateB
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel2Ideal.Gate

open Idealize.ShloMosaic Idealize.ShloMosaic.TcCoe Idealize.SL.Sem
open Idealize.ShloMosaic.Pipeline (Dat)
open Cert.Kernel2Ideal Cert.Kernel2Ideal.Gen Cert.Reference2Ideal.Read

variable (m : (ℓ : Loc nD τ sig) → Buf (Elt Ideal) ℓ)

/-- The part of the bias gradient that grid point `t` adds: a sum over its 512 rows. -/
def part (c : Dev nD) (t : Fin cfg0.N) : FVec Ideal S2x1024 .f32 := fun j =>
  if (j 0).val = 0 then
    ∑ r : Fin 512, k0_pay1 (F := Ideal) (k0_pay9 (iblk m c 4 t))
      (k0_pay10 (View.ld (iblk m c 1 t) (Rect.unit ![1, 0, 0] ![1, 2, 1024] inb_S2x2x1024_S1x2x1024_1_0_0))
        (View.ld (X0_0 m c t) (Rect.unit ![0, 0] ![512, 1024] inb_S512x2048_S512x1024_0_0))) (iblk m c 2 t) (ix2 r ⟨(j 1).val, (j 1).isLt⟩)
  else
    ∑ r : Fin 512, k0_pay2 (F := Ideal) (k0_pay9 (iblk m c 4 t))
      (k0_pay11 (View.ld (iblk m c 1 t) (Rect.unit ![1, 0, 0] ![1, 2, 1024] inb_S2x2x1024_S1x2x1024_1_0_0))
        (View.ld (X0_0 m c t) (Rect.unit ![0, 1024] ![512, 1024] inb_S512x2048_S512x1024_0_1024))) (iblk m c 3 t) (ix2 r ⟨(j 1).val, (j 1).isLt⟩)

theorem step (c : Dev nD) (t : Fin cfg0.N) (h : ¬t.val % 8 = 0) (j : S2x1024.Idx) :
    (outsAt0 m c t.val t.isLt).2.2.2 j
      = (outsAt0 m c (t.val - 1) (Nat.lt_of_le_of_lt (Nat.sub_le _ _) t.isLt)).2.2.2 j + part m c t j := by
  rw [outsAt0_B m c t h]
  frame_out
  canon_tiles x h
  · have e : (j 0).val = 1 := by omega
    unfold part
    rw [if_neg (by omega)]
    pointwise [k0_pay6]
    blk_point []
  · have e : (j 0).val = 0 := by omega
    unfold part
    rw [if_pos (by omega)]
    pointwise [k0_pay5]
    blk_point []

theorem start (c : Dev nD) (t : Fin cfg0.N) (h : t.val % 8 = 0) (j : S2x1024.Idx) :
    (outsAt0 m c t.val t.isLt).2.2.2 j = 0 + part m c t j := by
  rw [outsAt0_A m c t h]
  frame_out
  refine View.canon_append_of_piecesOf (Val := Elt Ideal) (s := S2x1024) (e := .f32) (fun j => (0 : EReal) + part m c t j) [_] [_, _] ⟨fun x => ?_, fun x => ?_, trivial⟩ j ?_
  · rw [View.readCov_skip _ _ _ _ _ (by decide), View.readCov_fill _ _ _ _ _ (by decide)]
    idx_vars x
    unfold part
    pointwise [k0_pay6, k0_pay7]
    rw [if_neg (by blk_simp; try omega)]
    blk_point []
  · rw [View.readCov_fill _ _ _ _ _ (by decide)]
    idx_vars x
    unfold part
    pointwise [k0_pay5, k0_pay7]
    rw [if_pos (by blk_simp; try omega)]
    blk_point []
  · idx_vars j
    by_cases hj : (j0 : ℕ) = 0
    · refine ⟨_, List.mem_cons_of_mem _ (List.mem_cons_self ..), ?_⟩
      rw [Rect.mem_set_unit]
      refine Fin.forall_fin_two.mpr ⟨?_, ?_⟩ <;> simp <;> omega
    · refine ⟨_, List.mem_cons_self .., ?_⟩
      rw [Rect.mem_set_unit]
      refine Fin.forall_fin_two.mpr ⟨?_, ?_⟩ <;> simp <;> omega

/-- The reference's bias gradient sums the gates' gradients over all rows. -/
theorem bias_sum (X0 : FVec Ideal S4096x3840 .bf16) (X1 : FVec Ideal S2x2x1024 .f32) (X2 X3 X4 : FVec Ideal S4096x1024 .bf16) (g : Fin 2) (l : Fin 1024) :
    val_main_v39 (F := Ideal) X0 X1 X2 X3 X4 (ix2 g l) = ∑ r : Fin 4096, val_main_v36 (F := Ideal) X0 X1 X2 X3 X4 (ix3 r g l) := by
  pointwise [val_main_v39, val_main_v38, val_main_v37, val_main_cst_4, val_main_cst_5]
  simp

/-- The part of grid point `t` is the reference's sum over that point's rows. -/
theorem part_eq (c : Dev nD) (t : Fin cfg0.N) (g : Fin 2) (l : Fin 1024) : part m c t (ix2 g l)
    = ∑ r : Fin 512, val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (ix3 ⟨t.val * 512 + r.val, by have := t.isLt; have h : cfg0.N = 8 := N_0; omega⟩ g l) := by
  unfold part
  rw [X_eq m c t]
  obtain rfl | rfl : g = 0 ∨ g = 1 := by omega
  · rw [if_pos (by simp)]
    refine Finset.sum_congr rfl fun r _ => ?_
    rw [gate_lo]
    pointwise [k0_pay1, k0_pay2, k0_pay8, k0_pay9, k0_pay10, k0_pay11]
    simp only [sub_eq_add_neg, zero_add]
    blk_point [iblk, V, idx t]
  · rw [if_neg (by simp)]
    refine Finset.sum_congr rfl fun r _ => ?_
    rw [gate_hi]
    pointwise [k0_pay1, k0_pay2, k0_pay8, k0_pay9, k0_pay10, k0_pay11]
    simp only [sub_eq_add_neg, zero_add]
    blk_point [iblk, V, idx t]

/-- The parts of all grid points add up to the bias gradient. -/
theorem sum_parts (c : Dev nD) (g : Fin 2) (l : Fin 1024) : ∑ t : Fin cfg0.N, part m c t (ix2 g l)
    = ∑ r : Fin 4096, val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 r g l) := by
  rw [Finset.sum_congr rfl fun t _ => part_eq m c t g l]
  exact (Fin.sum_univ_tiles 8 512 rfl fun r : Fin 4096 => val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 r g l)).symm

/-- The gradient of the gates' bias. -/
theorem final8 (c : Dev nD) : (dats m 0 c).arrAt 8 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  idx_vars j
  rw [after0_8, Pipeline.eq_sum_fin_of_reset_step_apply_last (fun n h => (outsAt0 m c n h).2.2.2) 8 (fun _ => (0 : EReal)) (part m c)
    (fun t h j => start m c t h j) (fun t h j => step m c t h j) (le_of_eq N_0) t0_7 rfl, zero_add, bias_sum]
  exact sum_parts m c j0 j1

end Cert.Kernel2Ideal.Gate

end

end
-- ==== Proof.FlashLoop.lean ====
module

public import proofs.«01_k».proof.Proof.Gen.KernelIdeal.Loops

/-! # The loop over blocks of keys of the attention gradient

The kernel runs, for one head, over its eight blocks of 512 keys.  One turn loads the block's keys
and values, takes the diagonal block of queries (the only one under the mask), goes through the
later blocks of queries by an inner loop, and stores the gradients of the block's keys and values;
the gradient of the queries is added to in place.  This module states the turn once, at a symbolic
block, and the contents of the three gradients before each block as a recursion over the turns. -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one turn holds: the operands it reads at their contents, the three gradients at any. -/
abbrev Turn (c : Dev nD) (arg1 : Memref sig .tc .vmem S4096x128 .bf16) (arg2 : Memref sig .tc .vmem S4096x128 .bf16) (arg3 : Memref sig .tc .vmem S4096x128 .bf16) (arg4 : Memref sig .tc .vmem S4096x128 .bf16) (arg6 : Memref sig .tc .vmem S1x4096x128 .f32) (arg10 : Memref sig .tc .vmem S4096x128 .f32) (arg7 : Memref sig .tc .vmem S4096x128 .f32) (arg8 : Memref sig .tc .vmem S4096x128 .f32) (arg9 : Memref sig .tc .vmem S4096x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (f_arg7 : BufTy.Contents (Elt F) arg7.view.ty) (f_arg8 : BufTy.Contents (Elt F) arg8.view.ty) (f_arg9 : BufTy.Contents (Elt F) arg9.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg10.view.loc (c : Thread nD τ) ↦[arg10.view.set]{fullShare} X_arg10) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9))

/-- One turn at a symbolic block: the rectangles it writes into the three gradients, as functions of
    the gradient of the queries it finds, and the turn's triple. -/
@[irreducible] def turn (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (k : Fin k0_t2_loop.trips) :
    Σ' (L_arg7 : BufTy.Contents (Elt F) arg7.view.ty → List (View.Piece (Elt F) S4096x128 .f32)) (L_arg8 : BufTy.Contents (Elt F) arg7.view.ty → List (View.Piece (Elt F) S4096x128 .f32)), { L_arg9 : BufTy.Contents (Elt F) arg7.view.ty → List (View.Piece (Elt F) S4096x128 .f32) // ∀ (E : Set ℕ) (f_arg7 : BufTy.Contents (Elt F) arg7.view.ty) (f_arg8 : BufTy.Contents (Elt F) arg8.view.ty) (f_arg9 : BufTy.Contents (Elt F) arg9.view.ty),
      Turn (F := F) c arg1 arg2 arg3 arg4 arg6 arg10 arg7 arg8 arg9 X_arg1 X_arg2 X_arg3 X_arg4 X_arg6 X_arg10 f_arg7 f_arg8 f_arg9
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 k ())
          (fun _ => Turn (F := F) c arg1 arg2 arg3 arg4 arg6 arg10 arg7 arg8 arg9 X_arg1 X_arg2 X_arg3 X_arg4 X_arg6 X_arg10 (arg7.view.writes (Elt F) f_arg7 (L_arg7 f_arg7)) (arg8.view.writes (Elt F) f_arg8 (L_arg8 f_arg7)) (arg9.view.writes (Elt F) f_arg9 (L_arg9 f_arg7))) } := by
  refine ⟨?_, ?_, ?_, fun E f_arg7 f_arg8 f_arg9 => ?run⟩
  case run =>
    unfold k0_t2_body
    iintro ⟨HR_arg1, HR_arg2, HR_arg3, HR_arg4, HR_arg6, HR_arg10, HW_arg7, HW_arg8, HW_arg9⟩
    sl_exec_parts
    sl_step
    sl_close

/-- The rectangles of one turn, without its triple. -/
abbrev turnL7 (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (k : Fin k0_t2_loop.trips) (f : BufTy.Contents (Elt F) arg7.view.ty) : List (View.Piece (Elt F) S4096x128 .f32) :=
  (turn (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k).1 f
abbrev turnL8 (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (k : Fin k0_t2_loop.trips) (f : BufTy.Contents (Elt F) arg7.view.ty) : List (View.Piece (Elt F) S4096x128 .f32) :=
  (turn (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k).2.1 f
abbrev turnL9 (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (k : Fin k0_t2_loop.trips) (f : BufTy.Contents (Elt F) arg7.view.ty) : List (View.Piece (Elt F) S4096x128 .f32) :=
  (turn (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k).2.2.1 f

/-- The contents of the three gradients. -/
abbrev Grads (arg7 : Memref sig .tc .vmem S4096x128 .f32) (arg8 : Memref sig .tc .vmem S4096x128 .f32) (arg9 : Memref sig .tc .vmem S4096x128 .f32) : Type :=
  BufTy.Contents (Elt F) arg7.view.ty × BufTy.Contents (Elt F) arg8.view.ty × BufTy.Contents (Elt F) arg9.view.ty

/-- One step of the recursion: the turn's rectangles written over what the turns before left. -/
@[irreducible] def gradsStep (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (k : ℕ) (g : Grads (F := F) arg7 arg8 arg9) : Grads (F := F) arg7 arg8 arg9 :=
  if h : k < k0_t2_loop.trips then
    (arg7.view.writes (Elt F) g.1 (turnL7 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 ⟨k, h⟩ g.1),
     arg8.view.writes (Elt F) g.2.1 (turnL8 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 ⟨k, h⟩ g.1),
     arg9.view.writes (Elt F) g.2.2 (turnL9 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 ⟨k, h⟩ g.1))
  else g

/-- The three gradients before turn `k`, from the contents at the loop's entry. -/
def grads (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (G : Grads (F := F) arg7 arg8 arg9) : ℕ → Grads (F := F) arg7 arg8 arg9
  | 0 => G
  | k + 1 => gradsStep (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k (grads 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G k)

/-- The recursion's successor equation at a turn of the loop. -/
theorem grads_succ (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (G : Grads (F := F) arg7 arg8 arg9) (k : Fin k0_t2_loop.trips) :
    grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G (k.val + 1) =
    (let g := grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G k.val
     (arg7.view.writes (Elt F) g.1 (turnL7 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k g.1),
      arg8.view.writes (Elt F) g.2.1 (turnL8 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k g.1),
      arg9.view.writes (Elt F) g.2.2 (turnL9 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k g.1))) := by
  rw [grads.eq_2]; unfold gradsStep; exact dif_pos k.isLt

/-- Before turn `k`: the operands read at their contents, the three gradients at the recursion's. -/
abbrev inv (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (G_arg7 : BufTy.Contents (Elt F) arg7.view.ty) (G_arg8 : BufTy.Contents (Elt F) arg8.view.ty) (G_arg9 : BufTy.Contents (Elt F) arg9.view.ty) (k : ℕ) (_ : Unit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg10.view.loc (c : Thread nD τ) ↦[arg10.view.set]{fullShare} X_arg10) ∗ (∃ f, (arg7.view.loc (c : Thread nD τ) ↦[arg7.view.set]{fullShare} f) ∗ ⌜f = (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 (G_arg7, G_arg8, G_arg9) k).1⌝) ∗ (∃ f, (arg8.view.loc (c : Thread nD τ) ↦[arg8.view.set]{fullShare} f) ∗ ⌜f = (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 (G_arg7, G_arg8, G_arg9) k).2.1⌝) ∗ (∃ f, (arg9.view.loc (c : Thread nD τ) ↦[arg9.view.set]{fullShare} f) ∗ ⌜f = (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 (G_arg7, G_arg8, G_arg9) k).2.2⌝))

set_option warn.classDefReducibility false in
/-- The loop over blocks of keys by its invariant. -/
@[sl_loop] def loopInv_keys (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty) (G_arg7 : BufTy.Contents (Elt F) arg7.view.ty) (G_arg8 : BufTy.Contents (Elt F) arg8.view.ty) (G_arg9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G_arg7 G_arg8 G_arg9
  step k acc := by
    iintro ⟨HR_arg1, HR_arg2, HR_arg3, HR_arg4, HR_arg6, HR_arg10, ⟨%f_arg7, HW_arg7, %h_arg7⟩, ⟨%f_arg8, HW_arg8, %h_arg8⟩, ⟨%f_arg9, HW_arg9, %h_arg9⟩⟩
    iapply (wp_wand_r Idealize.ShloMosaic.frame (wpE (defs₀ (F := F)) 𝒱 (c : Thread nD τ) bd) E)
    isplitl [HR_arg1 HR_arg2 HR_arg3 HR_arg4 HR_arg6 HR_arg10 HW_arg7 HW_arg8 HW_arg9]
    · iapply ((turn (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k).2.2.2 E f_arg7 f_arg8 f_arg9)
      isplitl [HR_arg1]; · iexact HR_arg1
      isplitl [HR_arg2]; · iexact HR_arg2
      isplitl [HR_arg3]; · iexact HR_arg3
      isplitl [HR_arg4]; · iexact HR_arg4
      isplitl [HR_arg6]; · iexact HR_arg6
      isplitl [HR_arg10]; · iexact HR_arg10
      isplitl [HW_arg7]; · iexact HW_arg7
      isplitl [HW_arg8]; · iexact HW_arg8
      iexact HW_arg9
    · iintro %yld ⟨HR_arg1, HR_arg2, HR_arg3, HR_arg4, HR_arg6, HR_arg10, HW_arg7, HW_arg8, HW_arg9⟩
      isplitl [HR_arg1]; · iexact HR_arg1
      isplitl [HR_arg2]; · iexact HR_arg2
      isplitl [HR_arg3]; · iexact HR_arg3
      isplitl [HR_arg4]; · iexact HR_arg4
      isplitl [HR_arg6]; · iexact HR_arg6
      isplitl [HR_arg10]; · iexact HR_arg10
      simp only [grads_succ]
      isplitl [HW_arg7]
      · iexists _; isplitl [HW_arg7]; · iexact HW_arg7
        ipureintro; rw [h_arg7]
      isplitl [HW_arg8]
      · iexists _; isplitl [HW_arg8]; · iexact HW_arg8
        ipureintro; rw [h_arg7, h_arg8]
      iexists _; isplitl [HW_arg9]; · iexact HW_arg9
      ipureintro; rw [h_arg7, h_arg9]

end Cert.KernelIdeal.Flash

end
-- ==== Proof.FlashModel.lean ====
module

public import proofs.«01_k».proof.Proof.FlashLoop
public import Idealize.ShloMosaic.Lib.VecWindow
public import Idealize.ShloMosaic.Lib.LoopRemainder
public import Idealize.ShloMosaic.Lib.ValueIdxCore

/-! # What the attention gradient's kernel leaves, block by block

A head's operands are arrays of 4096 rows, taken in eight blocks of 512 rows.  `rows X r` is block
`r`.  The definitions here say, with the kernel's own payloads, what the three gradients hold: block
`r` of the keys' and values' gradients is the diagonal block's share with the later blocks' shares
added one by one, and block `r` of the queries' gradient starts from zero and has the shares of the
key blocks `0 … r` added in turn.  The lemmas say that the loops of the kernel leave these. -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Idealize.ShloMosaic.ValueIdx

/-! ## Blocks of rows -/

theorem rows_inb (r : Fin 8) : ∀ a, (![512 * r.val, 0] : Fin 2 → ℕ) a + S512x128.size a ≤ S4096x128.size a := by
  revert r; decide

theorem lrows_inb (r : Fin 8) : ∀ a, (![0, 512 * r.val, 0] : Fin 3 → ℕ) a + S1x512x128.size a ≤ S1x4096x128.size a := by
  revert r; decide

/-- Block `r` of 512 rows. -/
def rows {e : EltTy} (X : Vec F S4096x128 e) (r : Fin 8) : Vec F S512x128 e :=
  VecWindow.window X ![512 * r.val, 0] S512x128.size (rows_inb r)

/-- Block `r` of 512 rows of an array with a leading unit axis. -/
def lrows (X : Vec F S1x4096x128 .f32) (r : Fin 8) : Vec F S1x512x128 .f32 :=
  VecWindow.window X ![0, 512 * r.val, 0] S1x512x128.size (lrows_inb r)

/-- The block an index lies in, and its place in the block. -/
def blkOf (y : S4096x128.Idx) : Fin 8 := ⟨(y (0 : Fin 2)).val / 512, Nat.div_lt_of_lt_mul (y (0 : Fin 2)).isLt⟩
def locOf (y : S4096x128.Idx) : S512x128.Idx :=
  ix2 ⟨(y (0 : Fin 2)).val % 512, Nat.mod_lt _ (by decide)⟩ ⟨(y (1 : Fin 2)).val, (y (1 : Fin 2)).isLt⟩

/-- The array with the given blocks. -/
def ofRows {e : EltTy} (f : Fin 8 → Vec F S512x128 e) : Vec F S4096x128 e := fun y => f (blkOf y) (locOf y)

theorem rows_apply {e : EltTy} (X : Vec F S4096x128 e) (r : Fin 8) (p : Fin 512) (d : Fin 128) :
    rows X r (ix2 p d) = X (ix2 ⟨512 * r.val + p.val, by omega⟩ d) :=
  congrArg X (funext fun a => Fin.ext (by
    refine a.cases ?_ fun a => a.cases ?_ fun a => a.elim0
    · show 512 * r.val + 1 * p.val = 512 * r.val + p.val
      omega
    · show 0 + 1 * d.val = d.val
      omega))

theorem lrows_apply (X : Vec F S1x4096x128 .f32) (r : Fin 8) (u : Fin 1) (p : Fin 512) (d : Fin 128) :
    lrows X r (ix3 u p d) = X (ix3 0 ⟨512 * r.val + p.val, by omega⟩ d) :=
  congrArg X (funext fun a => Fin.ext (by
    refine a.cases ?_ fun a => a.cases ?_ fun a => a.cases ?_ fun a => a.elim0
    · show 0 + 1 * u.val = 0
      omega
    · show 512 * r.val + 1 * p.val = 512 * r.val + p.val
      omega
    · show 0 + 1 * d.val = d.val
      omega))

theorem rows_blkOf {e : EltTy} (X : Vec F S4096x128 e) (y : S4096x128.Idx) : rows X (blkOf y) (locOf y) = X y := by
  unfold locOf
  rw [rows_apply]
  refine congrArg X ?_
  rw [eq_ix2 (n0 := 4096) (n1 := 128) y]
  refine congrArg₂ (ix2 (n0 := 4096) (n1 := 128)) (Fin.ext ?_) rfl
  show 512 * ((y (0 : Fin 2)).val / 512) + (y (0 : Fin 2)).val % 512 = (y (0 : Fin 2)).val
  omega

/-- Two arrays with the same blocks are equal. -/
theorem rows_ext {e : EltTy} {X Y : Vec F S4096x128 e} (h : ∀ r, rows X r = rows Y r) : X = Y := by
  funext y
  rw [← rows_blkOf X, ← rows_blkOf Y, h]

theorem rows_ofRows {e : EltTy} (f : Fin 8 → Vec F S512x128 e) (r : Fin 8) : rows (ofRows f) r = f r := by
  funext p
  obtain ⟨a, b, rfl⟩ : ∃ (a : Fin 512) (b : Fin 128), p = ix2 a b := ⟨p 0, p 1, eq_ix2 p⟩
  rw [rows_apply]
  have hb : blkOf (ix2 ⟨512 * r.val + a.val, by omega⟩ b) = r := Fin.ext (by
    show (512 * r.val + a.val) / 512 = r.val
    omega)
  have hl : locOf (ix2 ⟨512 * r.val + a.val, by omega⟩ b) = ix2 a b :=
    congrArg₂ (ix2 (n0 := 512) (n1 := 128)) (Fin.ext (by
      show (512 * r.val + a.val) % 512 = a.val
      omega)) rfl
  show f (blkOf _) (locOf _) = _
  rw [hb, hl]

variable {κ' : Kind} {sp : Space}

theorem rows_readAt {e : EltTy} (v : View sig κ' sp S4096x128 e) (f : v.ty.Contents (Elt F)) {off : Fin 2 → ℕ}
    (inb : ∀ a, off a + S512x128.size a ≤ S4096x128.size a) (r : Fin 8) (h : off = ![512 * r.val, 0]) :
    v.readAt (Elt F) (Rect.unit (s := S4096x128) off S512x128.size inb).toLoadRect f = rows (v.read (Elt F) f) r :=
  View.readAt_unit v f inb h (rows_inb r)

theorem lrows_readAt (v : View sig κ' sp S1x4096x128 .f32) (f : v.ty.Contents (Elt F)) {off : Fin 3 → ℕ}
    (inb : ∀ a, off a + S1x512x128.size a ≤ S1x4096x128.size a) (r : Fin 8) (h : off = ![0, 512 * r.val, 0]) :
    v.readAt (Elt F) (Rect.unit (s := S1x4096x128) off S1x512x128.size inb).toLoadRect f = lrows (v.read (Elt F) f) r :=
  View.readAt_unit v f inb h (lrows_inb r)

theorem rows_writes {e : EltTy} (v : View sig κ' sp S4096x128 e) (f : v.ty.Contents (Elt F)) {off : Fin 2 → ℕ}
    (inb : ∀ a, off a + S512x128.size a ≤ S4096x128.size a) (r r' : Fin 8) (h : off = ![512 * r.val, 0])
    (w : Vec F S512x128 e) (L : List (View.Piece (Elt F) S4096x128 e)) :
    rows (v.read (Elt F) (v.writes (Elt F) f (⟨Rect.unit (s := S4096x128) off S512x128.size inb, w⟩ :: L))) r'
      = if r' = r then w else rows (v.read (Elt F) (v.writes (Elt F) f L)) r' := by
  have e1 := View.read_writes_cons_put v f inb w L h
  unfold rows
  rw [e1]
  by_cases hr : r' = r
  · rw [if_pos hr]; subst hr
    exact VecWindow.window_put_same (s := S4096x128) _ _ S512x128.size (rows_inb r') w
  · rw [if_neg hr]
    refine VecWindow.window_put_of_disjoint (s := S4096x128) _ _ S512x128.size _ S512x128.size (rows_inb r') w (0 : Fin 2) ?_
    have : r'.val ≠ r.val := fun h => hr (Fin.ext h)
    show 512 * r'.val + 512 ≤ 512 * r.val ∨ 512 * r.val + 512 ≤ 512 * r'.val
    omega

/-! ## The loops' bounds and the blocks they touch -/

theorem trips_prep : k0_t1_loop.trips = 8 := by decide +kernel
theorem trips_keys : k0_t2_loop.trips = 8 := by decide +kernel
theorem trips_later : ∀ k : Fin k0_t2_loop.trips, (k0_t3_loop k).trips = 7 - k.val := by decide +kernel
theorem trips_rest : ∀ k : Fin k0_t2_loop.trips, (k0_t4_loop k).trips = 0 := by decide +kernel

/-- The block a turn of the loop over keys takes. -/
def kblk (k : Fin k0_t2_loop.trips) : Fin 8 := ⟨k.val, trips_keys ▸ k.isLt⟩
/-- The block a turn of the first loop takes. -/
def pblk (k : Fin k0_t1_loop.trips) : Fin 8 := ⟨k.val, trips_prep ▸ k.isLt⟩
/-- The block of queries a turn of the inner loop takes. -/
def qblk (k : Fin k0_t2_loop.trips) (j : Fin (k0_t3_loop k).trips) : Fin 8 :=
  ⟨k.val + 1 + j.val, by have := j.isLt; have := trips_later k; omega⟩

theorem off1_eq : ∀ k : Fin k0_t1_loop.trips, k0_off1 k = ![512 * (pblk k).val, 0] := by decide +kernel
theorem off2_eq : ∀ k : Fin k0_t2_loop.trips, k0_off2 k = ![512 * (kblk k).val, 0] := by decide +kernel
theorem off3_eq : ∀ k : Fin k0_t2_loop.trips, k0_off3 k = ![0, 512 * (kblk k).val, 0] := by decide +kernel
theorem off4_eq : ∀ (k : Fin k0_t2_loop.trips) (j : Fin (k0_t3_loop k).trips), k0_off4 k j = ![512 * (qblk k j).val, 0] := by decide +kernel
theorem off5_eq : ∀ (k : Fin k0_t2_loop.trips) (j : Fin (k0_t3_loop k).trips), k0_off5 k j = ![0, 512 * (qblk k j).val, 0] := by decide +kernel

/-! ## The gradients as the kernel makes them -/

section Model

variable (Q K V DO : Vec F S4096x128 .bf16) (L : Vec F S1x4096x128 .f32) (D : Vec F S4096x128 .f32)

/-- The row sums the first loop makes: `D` with block `r` from the blocks of the two operands. -/
def delta (DO O : Vec F S4096x128 .bf16) : Vec F S4096x128 .f32 := ofRows fun r => k0_pay1 (rows DO r) (rows O r)

/-- The diagonal block's scores. -/
def diagS (k : Fin 8) : FVec F S512x512 .f32 := k0_pay15 (rows K k) (rows Q k)
/-- The diagonal block's gradient of the scores. -/
def diagDS (k : Fin 8) : FVec F S512x512 .bf16 :=
  k0_pay19 (rows V k) (rows DO k) (diagS Q K k) k0_pay16 (iota .tc S512x512 32 [1] iota_S512x512_d1_w32) 64#32 k0_pay17 0#32 (lrows L k) (rows D k)
/-- The diagonal block's share of the values' gradient. -/
def diagDV (k : Fin 8) : FVec F S512x128 .f32 :=
  k0_pay20 k0_pay14 (rows DO k) (diagS Q K k) k0_pay16 (iota .tc S512x512 32 [1] iota_S512x512_d1_w32) 64#32 k0_pay17 0#32 (lrows L k)
/-- The diagonal block's share of the keys' gradient. -/
def diagDK (k : Fin 8) : FVec F S512x128 .f32 :=
  k0_pay21 (rows V k) k0_pay14 (rows Q k) (rows DO k) (diagS Q K k) k0_pay16 (iota .tc S512x512 32 [1] iota_S512x512_d1_w32) 64#32 k0_pay17 0#32 (lrows L k) (rows D k)

/-- The keys' and values' gradients of block `k` after the diagonal and `j` later blocks of queries. -/
def carry (k : Fin 8) : ℕ → FVec F S512x128 .f32 × FVec F S512x128 .f32
  | 0 => (diagDK Q K V DO L D k, diagDV Q K DO L k)
  | j + 1 => if h : k.val + 1 + j < 8 then
      (k0_pay7 (rows K k) (rows V k) (carry k j).1 (rows Q ⟨k.val + 1 + j, h⟩) (rows DO ⟨k.val + 1 + j, h⟩) (lrows L ⟨k.val + 1 + j, h⟩) (rows D ⟨k.val + 1 + j, h⟩),
       k0_pay6 (rows K k) (carry k j).2 (rows Q ⟨k.val + 1 + j, h⟩) (rows DO ⟨k.val + 1 + j, h⟩) (lrows L ⟨k.val + 1 + j, h⟩))
    else carry k j

/-- Block `r` of the queries' gradient after key block `k`, from what it was. -/
def dqStep (k r : Fin 8) (x : FVec F S512x128 .f32) : FVec F S512x128 .f32 :=
  if r < k then x
  else if r = k then k0_pay3 (rows K k) (diagDS Q K V DO L D k) (k0_pay22 x) (constant S512x128 .f32 0x00000000#32)
  else k0_pay8 (rows K k) (rows V k) (rows Q r) (rows DO r) (lrows L r) (rows D r) x

/-- Block `r` of the queries' gradient after the first `k` key blocks. -/
def dqRows (r : Fin 8) : ℕ → FVec F S512x128 .f32
  | 0 => k0_pay2
  | k + 1 => if h : k < 8 then dqStep Q K V DO L D ⟨k, h⟩ r (dqRows r k) else dqRows r k

end Model

/-! ## The inner loop over the later blocks of queries -/

section Inner

variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty)
  (k : Fin k0_t2_loop.trips) (G : BufTy.Contents (Elt F) arg7.view.ty)

/-- One turn of the inner loop: what it yields, -/
theorem later_yield (j : Fin (k0_t3_loop k).trips) (acc : FVec F S512x128 .f32 × FVec F S512x128 .f32) (f : BufTy.Contents (Elt F) arg7.view.ty) :
    tripR_k0_t3 (F := F) 𝒱 c bd i arg1 harg1 arg2 harg2 arg3 harg3 arg4 harg4 arg5 harg5 arg6 harg6 arg7 harg7 arg8 harg8 arg9 harg9 arg10 harg10 k (rows (arg2.view.read (Elt F) X_arg2) (kblk k)) (rows (arg3.view.read (Elt F) X_arg3) (kblk k)) X_arg1 X_arg4 X_arg6 X_arg10 j acc f
      = (k0_pay7 (rows (arg2.view.read (Elt F) X_arg2) (kblk k)) (rows (arg3.view.read (Elt F) X_arg3) (kblk k)) acc.1 (rows (arg1.view.read (Elt F) X_arg1) (qblk k j)) (rows (arg4.view.read (Elt F) X_arg4) (qblk k j)) (lrows (arg6.view.read (Elt F) X_arg6) (qblk k j)) (rows (arg10.view.read (Elt F) X_arg10) (qblk k j)),
         k0_pay6 (rows (arg2.view.read (Elt F) X_arg2) (kblk k)) acc.2 (rows (arg1.view.read (Elt F) X_arg1) (qblk k j)) (rows (arg4.view.read (Elt F) X_arg4) (qblk k j)) (lrows (arg6.view.read (Elt F) X_arg6) (qblk k j))) := by
  unfold tripR_k0_t3 trip_k0_t3
  dsimp only
  rw [← rows_readAt arg1.view X_arg1 (k0_off4_inb k j) (qblk k j) (off4_eq k j), ← rows_readAt arg4.view X_arg4 (k0_off4_inb k j) (qblk k j) (off4_eq k j),
    ← rows_readAt arg10.view X_arg10 (k0_off4_inb k j) (qblk k j) (off4_eq k j), ← lrows_readAt arg6.view X_arg6 (k0_off5_inb k j) (qblk k j) (off5_eq k j)]

/-- and what it leaves of the queries' gradient, block by block. -/
theorem later_rows (j : Fin (k0_t3_loop k).trips) (acc : FVec F S512x128 .f32 × FVec F S512x128 .f32) (f f' : BufTy.Contents (Elt F) arg7.view.ty) (L : List (View.Piece (Elt F) S4096x128 .f32)) (hf : arg7.view.writes (Elt F) f' L = f) (r : Fin 8) :
    rows (arg7.view.read (Elt F) (arg7.view.writes (Elt F) f' (tripL_k0_t3 (F := F) 𝒱 c bd i arg1 harg1 arg2 harg2 arg3 harg3 arg4 harg4 arg5 harg5 arg6 harg6 arg7 harg7 arg8 harg8 arg9 harg9 arg10 harg10 k (rows (arg2.view.read (Elt F) X_arg2) (kblk k)) (rows (arg3.view.read (Elt F) X_arg3) (kblk k)) X_arg1 X_arg4 X_arg6 X_arg10 j acc f ++ L))) r
      = if r = qblk k j then k0_pay8 (rows (arg2.view.read (Elt F) X_arg2) (kblk k)) (rows (arg3.view.read (Elt F) X_arg3) (kblk k)) (rows (arg1.view.read (Elt F) X_arg1) r) (rows (arg4.view.read (Elt F) X_arg4) r) (lrows (arg6.view.read (Elt F) X_arg6) r) (rows (arg10.view.read (Elt F) X_arg10) r) (rows (arg7.view.read (Elt F) f) r)
        else rows (arg7.view.read (Elt F) f) r := by
  unfold tripL_k0_t3 trip_k0_t3
  dsimp only
  rw [List.cons_append, List.nil_append, rows_writes arg7.view f' (k0_off4_inb k j) (qblk k j) r (off4_eq k j), hf,
    rows_readAt arg1.view X_arg1 (k0_off4_inb k j) (qblk k j) (off4_eq k j), rows_readAt arg4.view X_arg4 (k0_off4_inb k j) (qblk k j) (off4_eq k j),
    rows_readAt arg10.view X_arg10 (k0_off4_inb k j) (qblk k j) (off4_eq k j), lrows_readAt arg6.view X_arg6 (k0_off5_inb k j) (qblk k j) (off5_eq k j),
    rows_readAt arg7.view f (k0_off4_inb k j) (qblk k j) (off4_eq k j)]
  by_cases h : r = qblk k j
  · subst h; rw [if_pos rfl]
  · rw [if_neg h, if_neg h]

/-- The inner loop before its turn `j`, from the diagonal's shares and contents `G`: the carried sums are
    the model's, and the blocks of queries taken so far have this block of keys' share. -/
theorem later_state (j : ℕ) (hj : j ≤ 7 - k.val) :
    (st_k0_t3 (F := F) 𝒱 c bd i arg1 harg1 arg2 harg2 arg3 harg3 arg4 harg4 arg5 harg5 arg6 harg6 arg7 harg7 arg8 harg8 arg9 harg9 arg10 harg10 k (rows (arg2.view.read (Elt F) X_arg2) (kblk k)) (rows (arg3.view.read (Elt F) X_arg3) (kblk k)) X_arg1 X_arg4 X_arg6 X_arg10 G (carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) 0) j).1 = carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) j
    ∧ ∀ r, rows (arg7.view.read (Elt F) (arg7.view.writes (Elt F) G (st_k0_t3 (F := F) 𝒱 c bd i arg1 harg1 arg2 harg2 arg3 harg3 arg4 harg4 arg5 harg5 arg6 harg6 arg7 harg7 arg8 harg8 arg9 harg9 arg10 harg10 k (rows (arg2.view.read (Elt F) X_arg2) (kblk k)) (rows (arg3.view.read (Elt F) X_arg3) (kblk k)) X_arg1 X_arg4 X_arg6 X_arg10 G (carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) 0) j).2)) r
      = if k.val < r.val ∧ r.val ≤ k.val + j then k0_pay8 (rows (arg2.view.read (Elt F) X_arg2) (kblk k)) (rows (arg3.view.read (Elt F) X_arg3) (kblk k)) (rows (arg1.view.read (Elt F) X_arg1) r) (rows (arg4.view.read (Elt F) X_arg4) r) (lrows (arg6.view.read (Elt F) X_arg6) r) (rows (arg10.view.read (Elt F) X_arg10) r) (rows (arg7.view.read (Elt F) G) r)
        else rows (arg7.view.read (Elt F) G) r := by
  induction j with
  | zero =>
    refine ⟨rfl, fun r => ?_⟩
    rw [if_neg (by omega)]
    rfl
  | succ j ih =>
    obtain ⟨h1, h2⟩ := ih (by omega)
    have hjt : j < (k0_t3_loop k).trips := by rw [trips_later]; omega
    have hb : k.val + 1 + j < 8 := by omega
    rw [st_k0_t3_succ (F := F) 𝒱 c bd i arg1 harg1 arg2 harg2 arg3 harg3 arg4 harg4 arg5 harg5 arg6 harg6 arg7 harg7 arg8 harg8 arg9 harg9 arg10 harg10 k _ _ X_arg1 X_arg4 X_arg6 X_arg10 G _ ⟨j, hjt⟩]
    refine ⟨?_, fun r => ?_⟩
    · dsimp only
      rw [later_yield, h1]
      conv_rhs => rw [carry.eq_2, dif_pos (show (kblk k).val + 1 + j < 8 from hb)]
      rfl
    · dsimp only
      rw [later_rows _ _ _ _ _ _ _ _ _ _ _ _ _ _ _ _ _ _ _ _ _ _ _ _ _ _ _ _ _ _ _ _ _ _ _ _ rfl, h2 r]
      by_cases hr : r = qblk k ⟨j, hjt⟩
      · have hv : r.val = k.val + 1 + j := congrArg Fin.val hr
        rw [if_pos hr, if_neg (by omega), if_pos (by omega)]
      · have hv : r.val ≠ k.val + 1 + j := fun h => hr (Fin.ext h)
        rw [if_neg hr]
        by_cases hc : k.val < r.val ∧ r.val ≤ k.val + j
        · rw [if_pos hc, if_pos (by omega)]
        · rw [if_neg hc, if_neg (by omega)]

end Inner

end Cert.KernelIdeal.Flash

end
-- ==== Proof.FlashRun.lean ====
module

public import proofs.«01_k».proof.Proof.FlashModel

/-! # One turn of the kernel's loop over the blocks of keys

A turn takes block `k` of the keys and values.  It leaves block `k` of their gradients at the sum of
the shares of the query blocks `k … 7`, and adds its own share to every block of the queries' gradient
from `k` on.  Eight turns give the three gradients whole. -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg10 : BufTy.Contents (Elt F) arg10.view.ty)

theorem eq_k (k : Fin k0_t2_loop.trips) : turn.sl.r arg2 X_arg2 k = rows (arg2.view.read (Elt F) X_arg2) (kblk k) := by
  unfold turn.sl.r; exact rows_readAt arg2.view X_arg2 (k0_off2_inb k) (kblk k) (off2_eq k)
theorem eq_v (k : Fin k0_t2_loop.trips) : turn.sl.r_1 arg3 X_arg3 k = rows (arg3.view.read (Elt F) X_arg3) (kblk k) := by
  unfold turn.sl.r_1; exact rows_readAt arg3.view X_arg3 (k0_off2_inb k) (kblk k) (off2_eq k)
theorem eq_q (k : Fin k0_t2_loop.trips) : turn.sl.r_2 arg1 X_arg1 k = rows (arg1.view.read (Elt F) X_arg1) (kblk k) := by
  unfold turn.sl.r_2; exact rows_readAt arg1.view X_arg1 (k0_off2_inb k) (kblk k) (off2_eq k)
theorem eq_do (k : Fin k0_t2_loop.trips) : turn.sl.r_3 arg4 X_arg4 k = rows (arg4.view.read (Elt F) X_arg4) (kblk k) := by
  unfold turn.sl.r_3; exact rows_readAt arg4.view X_arg4 (k0_off2_inb k) (kblk k) (off2_eq k)
theorem eq_s (k : Fin k0_t2_loop.trips) : turn.sl.v15 arg1 arg2 X_arg1 X_arg2 k = diagS (arg1.view.read (Elt F) X_arg1) (arg2.view.read (Elt F) X_arg2) (kblk k) := by
  unfold turn.sl.v15
  rw [rows_readAt arg1.view X_arg1 (k0_off2_inb k) (kblk k) (off2_eq k), rows_readAt arg2.view X_arg2 (k0_off2_inb k) (kblk k) (off2_eq k)]; rfl
theorem eq_ds (k : Fin k0_t2_loop.trips) :
    turn.sl.r_4 arg1 arg2 arg3 arg4 arg6 arg10 X_arg1 X_arg2 X_arg3 X_arg4 X_arg6 X_arg10 k = diagDS (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) := by
  unfold turn.sl.r_4
  rw [lrows_readAt arg6.view X_arg6 (k0_off3_inb k) (kblk k) (off3_eq k), rows_readAt arg10.view X_arg10 (k0_off2_inb k) (kblk k) (off2_eq k), eq_s, eq_v, eq_do]; rfl
theorem eq_dv (k : Fin k0_t2_loop.trips) :
    turn.sl.r_5 arg1 arg2 arg4 arg6 X_arg1 X_arg2 X_arg4 X_arg6 k = diagDV (arg1.view.read (Elt F) X_arg1) (arg2.view.read (Elt F) X_arg2) (arg4.view.read (Elt F) X_arg4) (arg6.view.read (Elt F) X_arg6) (kblk k) := by
  unfold turn.sl.r_5
  rw [lrows_readAt arg6.view X_arg6 (k0_off3_inb k) (kblk k) (off3_eq k), eq_s, eq_do]; rfl
theorem eq_dk (k : Fin k0_t2_loop.trips) :
    turn.sl.r_6 arg1 arg2 arg3 arg4 arg6 arg10 X_arg1 X_arg2 X_arg3 X_arg4 X_arg6 X_arg10 k = diagDK (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) := by
  unfold turn.sl.r_6
  rw [lrows_readAt arg6.view X_arg6 (k0_off3_inb k) (kblk k) (off3_eq k), rows_readAt arg10.view X_arg10 (k0_off2_inb k) (kblk k) (off2_eq k), eq_s, eq_v, eq_do, eq_q]; rfl
theorem eq_dq (k : Fin k0_t2_loop.trips) (f : BufTy.Contents (Elt F) arg7.view.ty) :
    turn.sl.r_7 arg7 k f = k0_pay22 (rows (arg7.view.read (Elt F) f) (kblk k)) := by
  unfold turn.sl.r_7
  rw [rows_readAt arg7.view f (k0_off2_inb k) (kblk k) (off2_eq k)]

/-- The diagonal's store into the queries' gradient. -/
def dpiece (k : Fin k0_t2_loop.trips) (f : BufTy.Contents (Elt F) arg7.view.ty) : View.Piece (Elt F) S4096x128 .f32 :=
  ⟨Rect.unit (k0_off2 k) ![512, 128] (k0_off2_inb k), k0_pay3 (rows (arg2.view.read (Elt F) X_arg2) (kblk k)) (diagDS (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k)) (k0_pay22 (rows (arg7.view.read (Elt F) f) (kblk k))) (constant S512x128 .f32 0x00000000#32)⟩

theorem turn7_eq (k : Fin k0_t2_loop.trips) (f : BufTy.Contents (Elt F) arg7.view.ty) :
    turnL7 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k f = (st_k0_t3 (F := F) 𝒱 c bd i arg1 harg1 arg2 harg2 arg3 harg3 arg4 harg4 arg5 harg5 arg6 harg6 arg7 harg7 arg8 harg8 arg9 harg9 arg10 harg10 k (rows (arg2.view.read (Elt F) X_arg2) (kblk k)) (rows (arg3.view.read (Elt F) X_arg3) (kblk k)) X_arg1 X_arg4 X_arg6 X_arg10 (arg7.view.writes (Elt F) f [dpiece arg1 arg2 arg3 arg4 arg6 arg7 arg10 X_arg1 X_arg2 X_arg3 X_arg4 X_arg6 X_arg10 k f]) (carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) 0) (7 - k.val)).2 ++ [dpiece arg1 arg2 arg3 arg4 arg6 arg7 arg10 X_arg1 X_arg2 X_arg3 X_arg4 X_arg6 X_arg10 k f] := by
  unfold turnL7 turn
  dsimp only
  have e3 := trips_later k
  have e4 := trips_rest k
  unfold k0_t3_loop at e3
  unfold k0_t4_loop at e4
  dsimp only [Scf.Loop.trips] at e3 e4
  rw [e4, e3, eq_ds, eq_dk, eq_dv, eq_dq, eq_k, eq_v]
  rw [st_k0_t4.eq_1]
  rfl
theorem turn8_eq (k : Fin k0_t2_loop.trips) (f : BufTy.Contents (Elt F) arg7.view.ty) :
    turnL8 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k f = [⟨Rect.unit (k0_off2 k) ![512, 128] (k0_off2_inb k), (st_k0_t3 (F := F) 𝒱 c bd i arg1 harg1 arg2 harg2 arg3 harg3 arg4 harg4 arg5 harg5 arg6 harg6 arg7 harg7 arg8 harg8 arg9 harg9 arg10 harg10 k (rows (arg2.view.read (Elt F) X_arg2) (kblk k)) (rows (arg3.view.read (Elt F) X_arg3) (kblk k)) X_arg1 X_arg4 X_arg6 X_arg10 (arg7.view.writes (Elt F) f [dpiece arg1 arg2 arg3 arg4 arg6 arg7 arg10 X_arg1 X_arg2 X_arg3 X_arg4 X_arg6 X_arg10 k f]) (carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) 0) (7 - k.val)).1.1⟩] := by
  unfold turnL8 turn
  dsimp only
  have e3 := trips_later k
  have e4 := trips_rest k
  unfold k0_t3_loop at e3
  unfold k0_t4_loop at e4
  dsimp only [Scf.Loop.trips] at e3 e4
  rw [e4, e3, eq_ds, eq_dk, eq_dv, eq_dq, eq_k, eq_v]
  rw [st_k0_t4.eq_1]
  rfl
theorem turn9_eq (k : Fin k0_t2_loop.trips) (f : BufTy.Contents (Elt F) arg7.view.ty) :
    turnL9 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k f = [⟨Rect.unit (k0_off2 k) ![512, 128] (k0_off2_inb k), (st_k0_t3 (F := F) 𝒱 c bd i arg1 harg1 arg2 harg2 arg3 harg3 arg4 harg4 arg5 harg5 arg6 harg6 arg7 harg7 arg8 harg8 arg9 harg9 arg10 harg10 k (rows (arg2.view.read (Elt F) X_arg2) (kblk k)) (rows (arg3.view.read (Elt F) X_arg3) (kblk k)) X_arg1 X_arg4 X_arg6 X_arg10 (arg7.view.writes (Elt F) f [dpiece arg1 arg2 arg3 arg4 arg6 arg7 arg10 X_arg1 X_arg2 X_arg3 X_arg4 X_arg6 X_arg10 k f]) (carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) 0) (7 - k.val)).1.2⟩] := by
  unfold turnL9 turn
  dsimp only
  have e3 := trips_later k
  have e4 := trips_rest k
  unfold k0_t3_loop at e3
  unfold k0_t4_loop at e4
  dsimp only [Scf.Loop.trips] at e3 e4
  rw [e4, e3, eq_ds, eq_dk, eq_dv, eq_dq, eq_k, eq_v]
  rw [st_k0_t4.eq_1]
  rfl

/-- What a turn leaves of the queries' gradient, -/
theorem turn7_rows (k : Fin k0_t2_loop.trips) (f : BufTy.Contents (Elt F) arg7.view.ty) (r : Fin 8) :
    rows (arg7.view.read (Elt F) (arg7.view.writes (Elt F) f (turnL7 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k f))) r
      = dqStep (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) r (rows (arg7.view.read (Elt F) f) r) := by
  rw [turn7_eq, View.writes_append, (later_state 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k _ _ le_rfl).2 r]
  have hd : ∀ r, rows (arg7.view.read (Elt F) (arg7.view.writes (Elt F) f [dpiece arg1 arg2 arg3 arg4 arg6 arg7 arg10 X_arg1 X_arg2 X_arg3 X_arg4 X_arg6 X_arg10 k f])) r = _ := fun r =>
    rows_writes arg7.view f (k0_off2_inb k) (kblk k) r (off2_eq k) _ []
  rw [hd]
  have hk : (kblk k).val = k.val := rfl
  unfold dqStep
  rcases lt_trichotomy r (kblk k) with h | h | h
  · rw [if_neg (by have := Fin.lt_def.mp h; omega), if_neg h.ne, if_pos h]; rfl
  · subst h
    rw [if_neg (by omega), if_pos rfl, if_neg (lt_irrefl _), if_pos rfl]
  · have h' := Fin.lt_def.mp h
    have := r.isLt
    rw [if_pos (by omega), if_neg h.ne', if_neg h.not_gt, if_neg h.ne']; rfl
/-- of the keys' gradient, -/
theorem turn8_rows (k : Fin k0_t2_loop.trips) (f : BufTy.Contents (Elt F) arg7.view.ty) (g : BufTy.Contents (Elt F) arg8.view.ty) (r : Fin 8) :
    rows (arg8.view.read (Elt F) (arg8.view.writes (Elt F) g (turnL8 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k f))) r
      = if r = kblk k then (carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) (7 - k.val)).1 else rows (arg8.view.read (Elt F) g) r := by
  rw [turn8_eq, rows_writes arg8.view g (k0_off2_inb k) (kblk k) r (off2_eq k) _ [], (later_state 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k _ _ le_rfl).1]
  rfl
/-- and of the values' gradient. -/
theorem turn9_rows (k : Fin k0_t2_loop.trips) (f : BufTy.Contents (Elt F) arg7.view.ty) (g : BufTy.Contents (Elt F) arg9.view.ty) (r : Fin 8) :
    rows (arg9.view.read (Elt F) (arg9.view.writes (Elt F) g (turnL9 (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k f))) r
      = if r = kblk k then (carry (arg1.view.read (Elt F) X_arg1) (arg2.view.read (Elt F) X_arg2) (arg3.view.read (Elt F) X_arg3) (arg4.view.read (Elt F) X_arg4) (arg6.view.read (Elt F) X_arg6) (arg10.view.read (Elt F) X_arg10) (kblk k) (7 - k.val)).2 else rows (arg9.view.read (Elt F) g) r := by
  rw [turn9_eq, rows_writes arg9.view g (k0_off2_inb k) (kblk k) r (off2_eq k) _ [], (later_state 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 k _ _ le_rfl).1]
  rfl

/-- The three gradients after `j` turns. -/
theorem grads_rows (G : Grads (F := F) arg7 arg8 arg9) (hG : ∀ r, rows (arg7.view.read (Elt F) G.1) r = k0_pay2) (j : ℕ) (hj : j ≤ 8) (r : Fin 8) :
    rows (arg7.view.read (Elt F) (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G j).1) r = dqRows (arg1.view.read (Elt F) X_arg1) (arg2.view.read (Elt F) X_arg2) (arg3.view.read (Elt F) X_arg3) (arg4.view.read (Elt F) X_arg4) (arg6.view.read (Elt F) X_arg6) (arg10.view.read (Elt F) X_arg10) r j
    ∧ (r.val < j → rows (arg8.view.read (Elt F) (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G j).2.1) r = (carry (arg1.view.read (Elt F) X_arg1) (arg2.view.read (Elt F) X_arg2) (arg3.view.read (Elt F) X_arg3) (arg4.view.read (Elt F) X_arg4) (arg6.view.read (Elt F) X_arg6) (arg10.view.read (Elt F) X_arg10) r (7 - r.val)).1)
    ∧ (r.val < j → rows (arg9.view.read (Elt F) (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G j).2.2) r = (carry (arg1.view.read (Elt F) X_arg1) (arg2.view.read (Elt F) X_arg2) (arg3.view.read (Elt F) X_arg3) (arg4.view.read (Elt F) X_arg4) (arg6.view.read (Elt F) X_arg6) (arg10.view.read (Elt F) X_arg10) r (7 - r.val)).2) := by
  induction j with
  | zero => exact ⟨hG r, fun h => absurd h (Nat.not_lt_zero _), fun h => absurd h (Nat.not_lt_zero _)⟩
  | succ j ih =>
    obtain ⟨h7, h8, h9⟩ := ih (by omega)
    have hjt : j < k0_t2_loop.trips := by rw [trips_keys]; omega
    have hs := grads_succ (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G ⟨j, hjt⟩
    dsimp only at hs
    rw [hs]
    dsimp only
    rw [turn7_rows, turn8_rows, turn9_rows, h7]
    refine ⟨?_, fun hr => ?_, fun hr => ?_⟩
    · rw [dqRows.eq_2, dif_pos (show j < 8 by omega)]; rfl
    · by_cases hk : r = kblk ⟨j, hjt⟩
      · rw [if_pos hk]; subst hk; rfl
      · rw [if_neg hk]; exact h8 (by have : r.val ≠ j := fun h => hk (Fin.ext h)
                                     omega)
    · by_cases hk : r = kblk ⟨j, hjt⟩
      · rw [if_pos hk]; subst hk; rfl
      · rw [if_neg hk]; exact h9 (by have : r.val ≠ j := fun h => hk (Fin.ext h)
                                     omega)

/-- The queries' gradient whole, from the operands. -/
theorem grads_dq (G : Grads (F := F) arg7 arg8 arg9) (hG : ∀ r, rows (arg7.view.read (Elt F) G.1) r = k0_pay2) :
    arg7.view.read (Elt F) (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G k0_t2_loop.trips).1 = ofRows fun r => dqRows (arg1.view.read (Elt F) X_arg1) (arg2.view.read (Elt F) X_arg2) (arg3.view.read (Elt F) X_arg3) (arg4.view.read (Elt F) X_arg4) (arg6.view.read (Elt F) X_arg6) (arg10.view.read (Elt F) X_arg10) r 8 := by
  refine rows_ext fun r => ?_
  rw [rows_ofRows, trips_keys]
  exact (grads_rows 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G hG 8 le_rfl r).1
/-- The keys' gradient whole. -/
theorem grads_dk (G : Grads (F := F) arg7 arg8 arg9) (hG : ∀ r, rows (arg7.view.read (Elt F) G.1) r = k0_pay2) :
    arg8.view.read (Elt F) (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G k0_t2_loop.trips).2.1 = ofRows fun r => (carry (arg1.view.read (Elt F) X_arg1) (arg2.view.read (Elt F) X_arg2) (arg3.view.read (Elt F) X_arg3) (arg4.view.read (Elt F) X_arg4) (arg6.view.read (Elt F) X_arg6) (arg10.view.read (Elt F) X_arg10) r (7 - r.val)).1 := by
  refine rows_ext fun r => ?_
  rw [rows_ofRows, trips_keys]
  exact (grads_rows 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G hG 8 le_rfl r).2.1 r.isLt
/-- The values' gradient whole. -/
theorem grads_dv (G : Grads (F := F) arg7 arg8 arg9) (hG : ∀ r, rows (arg7.view.read (Elt F) G.1) r = k0_pay2) :
    arg9.view.read (Elt F) (grads (F := F) 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G k0_t2_loop.trips).2.2 = ofRows fun r => (carry (arg1.view.read (Elt F) X_arg1) (arg2.view.read (Elt F) X_arg2) (arg3.view.read (Elt F) X_arg3) (arg4.view.read (Elt F) X_arg4) (arg6.view.read (Elt F) X_arg6) (arg10.view.read (Elt F) X_arg10) r (7 - r.val)).2 := by
  refine rows_ext fun r => ?_
  rw [rows_ofRows, trips_keys]
  exact (grads_rows 𝒱 c bd i arg1 harg1 arg2 harg2 arg3 harg3 arg4 harg4 arg5 harg5 arg6 harg6 arg7 harg7 arg8 harg8 arg9 harg9 arg10 harg10 X_arg1 X_arg2 X_arg3 X_arg4 X_arg6 X_arg10 G hG 8 le_rfl r).2.2 r.isLt

/-! ## The first loop -/

variable (X_arg5 : BufTy.Contents (Elt F) arg5.view.ty)

/-- Before turn `j` of the first loop: the blocks taken hold their row sums, and zero. -/
theorem prep_rows (G7 : BufTy.Contents (Elt F) arg7.view.ty) (G10 : BufTy.Contents (Elt F) arg10.view.ty) (j : ℕ) (hj : j ≤ 8) (r : Fin 8) (hr : r.val < j) :
    rows (arg7.view.read (Elt F) (arg7.view.writes (Elt F) G7 (pb_k0_t1 (F := F) 𝒱 c bd i arg1 harg1 arg2 harg2 arg3 harg3 arg4 harg4 arg5 harg5 arg6 harg6 arg7 harg7 arg8 harg8 arg9 harg9 arg10 harg10 X_arg4 X_arg5 j).1)) r = k0_pay2
    ∧ rows (arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 X_arg4 X_arg5 j).2)) r = k0_pay1 (rows (arg4.view.read (Elt F) X_arg4) r) (rows (arg5.view.read (Elt F) X_arg5) r) := by
  induction j with
  | zero => exact absurd hr (Nat.not_lt_zero _)
  | succ j ih =>
    have hjt : j < k0_t1_loop.trips := by rw [trips_prep]; omega
    have hs := pb_k0_t1_succ (F := F) 𝒱 c bd i arg1 harg1 arg2 harg2 arg3 harg3 arg4 harg4 arg5 harg5 arg6 harg6 arg7 harg7 arg8 harg8 arg9 harg9 arg10 harg10 X_arg4 X_arg5 ⟨j, hjt⟩
    dsimp only at hs
    rw [hs]
    unfold trip_k0_t1
    dsimp only
    rw [List.cons_append, List.nil_append, List.cons_append, List.nil_append,
      rows_writes arg7.view G7 (k0_off1_inb ⟨j, hjt⟩) (pblk ⟨j, hjt⟩) r (off1_eq _), rows_writes arg10.view G10 (k0_off1_inb ⟨j, hjt⟩) (pblk ⟨j, hjt⟩) r (off1_eq _),
      rows_readAt arg4.view X_arg4 (k0_off1_inb ⟨j, hjt⟩) (pblk ⟨j, hjt⟩) (off1_eq _), rows_readAt arg5.view X_arg5 (k0_off1_inb ⟨j, hjt⟩) (pblk ⟨j, hjt⟩) (off1_eq _)]
    by_cases hk : r = pblk ⟨j, hjt⟩
    · subst hk; rw [if_pos rfl, if_pos rfl]; exact ⟨rfl, rfl⟩
    · rw [if_neg hk, if_neg hk]
      exact ih (by omega) (by have : r.val ≠ j := fun h => hk (Fin.ext h)
                              omega)

/-- After the first loop every block of the queries' gradient is zero, -/
theorem prep_zero (G7 : BufTy.Contents (Elt F) arg7.view.ty) (G10 : BufTy.Contents (Elt F) arg10.view.ty) (r : Fin 8) :
    rows (arg7.view.read (Elt F) (arg7.view.writes (Elt F) G7 (pb_k0_t1 (F := F) 𝒱 c bd i arg1 harg1 arg2 harg2 arg3 harg3 arg4 harg4 arg5 harg5 arg6 harg6 arg7 harg7 arg8 harg8 arg9 harg9 arg10 harg10 X_arg4 X_arg5 k0_t1_loop.trips).1)) r = k0_pay2 :=
  (prep_rows 𝒱 c bd i arg1 harg1 arg2 harg2 arg3 harg3 arg4 harg4 arg5 harg5 arg6 harg6 arg7 harg7 arg8 harg8 arg9 harg9 arg10 harg10 X_arg4 X_arg5 G7 G10 8 le_rfl r r.isLt).1
/-- and the row sums are whole. -/
theorem prep_delta (G7 : BufTy.Contents (Elt F) arg7.view.ty) (G10 : BufTy.Contents (Elt F) arg10.view.ty) :
    arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 X_arg4 X_arg5 k0_t1_loop.trips).2) = delta (arg4.view.read (Elt F) X_arg4) (arg5.view.read (Elt F) X_arg5) := by
  refine rows_ext fun r => ?_
  unfold delta
  rw [rows_ofRows]
  exact (prep_rows 𝒱 c bd i arg1 harg1 arg2 harg2 arg3 harg3 arg4 harg4 arg5 harg5 arg6 harg6 arg7 harg7 arg8 harg8 arg9 harg9 arg10 harg10 X_arg4 X_arg5 G7 G10 8 le_rfl r r.isLt).2

end Cert.KernelIdeal.Flash

end
-- ==== Proof.FlashBody.lean ====
module

public import proofs.«01_k».proof.Proof.FlashRun

/-! # The kernel's body on one head

On any buffers that hold a head's operands `Q K V DO O` and row log-sums `L` the body runs to its end
and leaves the three gradients of `FlashModel`, whatever the buffers held before. -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

section Out
variable (Q K V DO O : Vec F S4096x128 .bf16) (L : Vec F S1x4096x128 .f32)
/-- The queries' gradient of a head. -/
def gradQ : Vec F S4096x128 .f32 := ofRows fun r => dqRows Q K V DO L (delta DO O) r 8
/-- The keys' gradient of a head. -/
def gradK : Vec F S4096x128 .f32 := ofRows fun r => (carry Q K V DO L (delta DO O) r (7 - r.val)).1
/-- The values' gradient of a head. -/
def gradV : Vec F S4096x128 .f32 := ofRows fun r => (carry Q K V DO L (delta DO O) r (7 - r.val)).2
end Out

/-- The body's triple. -/
theorem body_run (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole)
    (Q K V DO O : Vec F S4096x128 .bf16) (L : Vec F S1x4096x128 .f32) (E : Set ℕ) (Kt : PUnit → sProp 𝕄G) :
    iprop(owns (c : Thread nD τ) arg1 fullShare Q ∗ owns (c : Thread nD τ) arg2 fullShare K ∗ owns (c : Thread nD τ) arg3 fullShare V ∗ owns (c : Thread nD τ) arg4 fullShare DO ∗ owns (c : Thread nD τ) arg5 fullShare O ∗ owns (c : Thread nD τ) arg6 fullShare L ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare Q ∗ owns (c : Thread nD τ) arg2 fullShare K ∗ owns (c : Thread nD τ) arg3 fullShare V ∗ owns (c : Thread nD τ) arg4 fullShare DO ∗ owns (c : Thread nD τ) arg5 fullShare O ∗ owns (c : Thread nD τ) arg6 fullShare L ∗ owns (c : Thread nD τ) arg7 fullShare (gradQ Q K V DO O L) ∗ owns (c : Thread nD τ) arg8 fullShare (gradK Q K V DO O L) ∗ owns (c : Thread nD τ) arg9 fullShare (gradV Q K V DO O L) ∗ (∃ d, owns (c : Thread nD τ) arg10 fullShare d)) -∗ Kt ⟨⟩))
      ⊢ wp frame (wpE (defs₀ (F := F)) Variants.none c none) E (cc0_flash_bwd_1 i arg1 harg1 arg2 harg2 arg3 harg3 arg4 harg4 arg5 harg5 arg6 harg6 arg7 harg7 arg8 harg8 arg9 harg9 arg10 harg10) Kt := by
  simp only [cc0_flash_bwd_1_eq_skeleton]; unfold cc0_flash_bwd_1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; unfold gradQ
    refine (grads_dq (hG := ?_) ..).trans ?_
    · exact fun r => prep_zero (G10 := f10) ..
    · rw [prep_delta (G7 := f7), harg1.read_unread, harg2.read_unread, harg3.read_unread, harg4.read_unread, harg5.read_unread, harg6.read_unread]
  isplitl [H8]
  · iexists _; isplitr; swap; · iexact H8
    ipureintro; unfold gradK
    refine (grads_dk (hG := ?_) ..).trans ?_
    · exact fun r => prep_zero (G10 := f10) ..
    · rw [prep_delta (G7 := f7), harg1.read_unread, harg2.read_unread, harg3.read_unread, harg4.read_unread, harg5.read_unread, harg6.read_unread]
  isplitl [H9]
  · iexists _; isplitr; swap; · iexact H9
    ipureintro; unfold gradV
    refine (grads_dv (hG := ?_) ..).trans ?_
    · exact fun r => prep_zero (G10 := f10) ..
    · rw [prep_delta (G7 := f7), harg1.read_unread, harg2.read_unread, harg3.read_unread, harg4.read_unread, harg5.read_unread, harg6.read_unread]
  iexists _, _; isplitr; swap; · iexact H10
  ipureintro; rfl

end Cert.KernelIdeal.Flash

end
-- ==== Proof.FlashFrame.lean ====
module

public import proofs.«01_k».proof.Proof.FlashBody
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.Claim

/-! # The attention gradient's run

The host lines prepare the heads' output and row log-sums; the pipeline then takes the eight heads, one
a grid point.  Each head's operands are its 128 columns of the arrays (its plane of the log-sums), and
the body's triple says what its three gradients are.  The run ends with the arrays at what these
blocks make, the arguments unchanged and every counter at zero. -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines -/

/-- The host's operations before the pipeline, by stretches. -/
abbrev stretches : List (List (HloOp τ sig (Elt F))) := [hostOps0, hostOps0_1, hostOps0_2, hostOps0_3, hostOps0_4]

/-- Core `c`'s buffers when the pipeline starts. -/
abbrev V (c : Dev nD) (b : Ref sig .tc) : Buf (Elt F) ((c : Thread nD τ).loc b) :=
  StableHlo.after (stretches (F := F)).flatten (fun b => m (c, b)) b

theorem stretches_fresh : (stretches (F := F)).Forall fun ops => ops.Forall fun op => op.fresh = ∅ := by
  simp only [List.Forall]; repeat' constructor

set_option maxHeartbeats 8000000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches ⟨hostOps0_sub, hostOps0_1_sub, hostOps0_2_sub, hostOps0_3_sub, hostOps0_4_sub⟩ stretches_fresh main_chain

/-- No host line writes a buffer that is not among the written ones. -/
theorem V_kept (c : Dev nD) (b : Ref sig .tc) (h : ∀ op ∈ (stretches (F := F)).flatten, Proc.devRef .tc b ∉ op.writes) :
    V m c b = m ((c : Thread nD τ).loc b) :=
  StableHlo.after_of_forall_not_mem (b := Proc.devRef .tc b) _ _ h

theorem V_main_arg0 (c : Dev nD) : V m c main_arg0 = m ((c : Thread nD τ).loc main_arg0) :=
  V_kept m c main_arg0 (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  V_kept m c main_arg1 (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  V_kept m c main_arg2 (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  V_kept m c main_arg3 (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at head `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every head. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .vmem S4096x128 .bf16 := win0_0.stage (cfg0.slots t 0)
abbrev ms0_1 (t : Fin cfg0.N) : Memref sig .tc .vmem S4096x128 .bf16 := win0_1.stage (cfg0.slots t 1)
abbrev ms0_2 (t : Fin cfg0.N) : Memref sig .tc .vmem S4096x128 .bf16 := win0_2.stage (cfg0.slots t 2)
abbrev ms0_3 (t : Fin cfg0.N) : Memref sig .tc .vmem S4096x128 .bf16 := win0_3.stage (cfg0.slots t 3)
abbrev ms0_4 (t : Fin cfg0.N) : Memref sig .tc .vmem S4096x128 .bf16 := win0_4.stage (cfg0.slots t 4)
abbrev ms0_5 (t : Fin cfg0.N) : Memref sig .tc .vmem S1x4096x128 .f32 := win0_5.stage (cfg0.slots t 5)
abbrev ms0_6 (t : Fin cfg0.N) : Memref sig .tc .vmem S4096x128 .f32 := win0_6.stage (cfg0.slots t 6)
abbrev ms0_7 (t : Fin cfg0.N) : Memref sig .tc .vmem S4096x128 .f32 := win0_7.stage (cfg0.slots t 7)
abbrev ms0_8 (t : Fin cfg0.N) : Memref sig .tc .vmem S4096x128 .f32 := win0_8.stage (cfg0.slots t 8)

abbrev scM0_0 : Memref sig .tc .vmem S4096x128 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-! ## What the body leaves at each head -/

/-- The proof data: the inputs' buffers at their blocks, the three gradients at the model's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gradQ (iblk m c 0 t) (iblk m c 1 t) (iblk m c 2 t) (iblk m c 3 t) (iblk m c 4 t) (iblk m c 5 t)
    | ⟨7, _⟩ => gradK (iblk m c 0 t) (iblk m c 1 t) (iblk m c 2 t) (iblk m c 3 t) (iblk m c 4 t) (iblk m c 5 t)
    | ⟨8, _⟩ => gradV (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = gradQ (iblk m c 0 t) (iblk m c 1 t) (iblk m c 2 t) (iblk m c 3 t) (iblk m c 4 t) (iblk m c 5 t) := by dsimp only [dats]
theorem after0_7 (c : Dev nD) (t : Fin cfg0.N) : (dats m 0 c).after 7 t = gradK (iblk m c 0 t) (iblk m c 1 t) (iblk m c 2 t) (iblk m c 3 t) (iblk m c 4 t) (iblk m c 5 t) := by dsimp only [dats]
theorem after0_8 (c : Dev nD) (t : Fin cfg0.N) : (dats m 0 c).after 8 t = gradV (iblk m c 0 t) (iblk m c 1 t) (iblk m c 2 t) (iblk m c 3 t) (iblk m c 4 t) (iblk m c 5 t) := by dsimp only [dats]

/-- What the body is called with at head `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The body at any head. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _  (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the implicit arguments are found through plain definitions in a metavariable's type
set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩, h.2⟩) (run_main_quiescent m ρ)

end Cert.KernelIdeal.Flash

end
-- ==== Proof.FlashBits.lean ====
module

public import proofs.«01_k».proof.Defs
public import proofs.«01_k».proof.Proof.FlashFrame
public import proofs.«01_k».proof.Proof.Gen.Kernel.Launch

/-! # The frame of the attention gradient at machine words

The program over the reals differs from the program at machine words in one constant, the mask, which
it names.  Read with the name standing for its word the two programs are the same, so the run proved
for any values serves both. -/

@[expose] public section

set_option maxRecDepth 16384
set_option maxHeartbeats 8000000

noncomputable section

namespace Cert.Proof

open Idealize.ShloMosaic Idealize.ShloMosaic.TcCoe

/-- At machine words a named constant is its word. -/
instance wordNamed : Named Bits := ⟨fun _ _ _ b => Scalar.ofBits _ b⟩

theorem kernel_body : Cert.Kernel.cc0_flash_bwd_1 (F := Bits) = Cert.KernelIdeal.cc0_flash_bwd_1 (F := Bits) := rfl

theorem kernel_main : Cert.Kernel.main (F := Bits) = Cert.KernelIdeal.main (F := Bits) := rfl

theorem kernel_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun kernel_body _) _) _) _) _) _) _) _) _) _) _) _) _) _) _) _) _) _) _) _) _

theorem kernel_defs : Cert.Kernel.defs (F := Bits) = Cert.KernelIdeal.defs (F := Bits) :=
  congrArg (Pipeline.defs Cert.Kernel.pcfgs) kernel_bodies

theorem kernel_run : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) :=
  congr (congrArg θ_run kernel_defs) (congrArg (onTc (τ := Cert.Kernel.τ)) kernel_main)

/-- The frame at machine words. -/
theorem frame_kernel : Cert.quiescent_Kernel := fun m ρ _ =>
  (DFunLike.congr_fun (congrFun kernel_run ⟨m, fun _ => 0, ρ⟩) _).mpr (Cert.KernelIdeal.Flash.frame (F := Bits) m ρ)

/-- The named constant's statement. -/
theorem preserves_kernel : Cert.preserves_Kernel_KernelIdeal := ⟨rfl, fun _ => rfl, rfl⟩

end Cert.Proof

end
-- ==== Proof.FlashReal.lean ====
module

public import proofs.«01_k».proof.Proof.Gen.ReferenceIdeal.Read
public import Idealize.ShloMosaic.Lib.Pointwise
public import Idealize.ShloMosaic.Lib.ValueIdx

/-! # Chunked softmax attention and its gradient over the reals

For one head, with real matrices of queries, keys, values and output gradients: `wR i j` is the weight
of key `j` for query `i` (zero where the key's chunk comes after the query's), and `dR i j` the gradient
of the score.  Softmax does not depend on the number subtracted from a row's scores. -/

@[expose] public section

noncomputable section

namespace Cert.Soft

open Idealize.ShloMosaic

/-- A finite sum of reals, read among the extended reals. -/
theorem coe_sum {n : ℕ} (f : Fin n → ℝ) : ((∑ i, f i : ℝ) : EReal) = ∑ i, (f i : EReal) := by
  have h : ∀ s : Finset (Fin n), ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact h Finset.univ

/-- The sum of products of real entries. -/
theorem coe_dot {n : ℕ} (f g : Fin n → ℝ) : (∑ i, (f i : EReal) * (g i : EReal)) = ((∑ i, f i * g i : ℝ) : EReal) := by
  rw [coe_sum]
  exact Finset.sum_congr rfl fun i _ => (EReal.coe_mul _ _).symm

/-- A row's maximum is real where no entry is `⊤` and some entry is not `⊥`. -/
theorem fold_max {n : ℕ} (f : Fin n → EReal) (hb : ∀ j, f j ≠ ⊤) (j₀ : Fin n) (h₀ : f j₀ ≠ ⊥) :
    ∃ μ : ℝ, Finset.univ.fold max ⊥ f = (μ : EReal) := by
  have h1 : ∀ s : Finset (Fin n), s.fold max ⊥ f ≠ ⊤ := by
    intro s
    induction s using Finset.induction_on with
    | empty => simp
    | insert a s ha ih =>
      rw [Finset.fold_insert ha]
      rcases max_choice (f a) (s.fold max ⊥ f) with h | h <;> rw [h]
      · exact hb a
      · exact ih
  have h2 : Finset.univ.fold max ⊥ f ≠ ⊥ := by
    have : f j₀ ≤ Finset.univ.fold max ⊥ f := Finset.le_fold_max _ |>.mpr (Or.inr ⟨j₀, Finset.mem_univ _, le_rfl⟩)
    intro h
    rw [h, le_bot_iff] at this
    exact h₀ this
  exact ⟨(Finset.univ.fold max ⊥ f).toReal, (EReal.coe_toReal (h1 _) h2).symm⟩

section Head
variable (q k v g : Fin 4096 → Fin 128 → ℝ)

/-- Key `j`'s chunk does not come after query `i`'s. -/
def seen (i j : Fin 4096) : Prop := j.val / 64 ≤ i.val / 64
instance (i j : Fin 4096) : Decidable (seen i j) := inferInstanceAs (Decidable (_ ≤ _))

theorem seen_self (i : Fin 4096) : seen i i := le_rfl

def sR (i j : Fin 4096) : ℝ := ∑ e, q i e * k j e
def eR (i j : Fin 4096) : ℝ := if seen i j then Real.exp (sR q k i j) else 0
def zR (i : Fin 4096) : ℝ := ∑ j, eR q k i j
def wR (i j : Fin 4096) : ℝ := eR q k i j / zR q k i
def gR (i j : Fin 4096) : ℝ := ∑ e, g i e * v j e
def dR (i j : Fin 4096) : ℝ := wR q k i j * (gR v g i j - ∑ j', gR v g i j' * wR q k i j')

theorem zR_pos (i : Fin 4096) : 0 < zR q k i := by
  refine Finset.sum_pos' (fun j _ => ?_) ⟨i, Finset.mem_univ _, ?_⟩
  · unfold eR; split_ifs
    · exact (Real.exp_pos _).le
    · exact le_rfl
  · rw [eR, if_pos (seen_self i)]
    exact Real.exp_pos _

/-- The weight from the row's log-sum. -/
theorem wR_lse (i j : Fin 4096) (h : seen i j) : Real.exp (sR q k i j - Real.log (zR q k i)) = wR q k i j := by
  rw [Real.exp_sub, Real.exp_log (zR_pos q k i), wR, eR, if_pos h]

theorem wR_unseen (i j : Fin 4096) (h : ¬ seen i j) : wR q k i j = 0 := by
  rw [wR, eR, if_neg h, zero_div]

/-- A masked score, its number subtracted, under the exponential. -/
theorem exp_masked (i j : Fin 4096) (μ : ℝ) :
    Ideal.exp ((if seen i j then (sR q k i j : EReal) else ⊥) - (μ : EReal)) = ((eR q k i j * Real.exp (-μ) : ℝ) : EReal) := by
  unfold eR
  split_ifs with h
  · rw [← EReal.coe_sub, Ideal.exp_coe, ← Real.exp_add, sub_eq_add_neg]
  · rw [EReal.bot_sub, Ideal.exp_bot, zero_mul, EReal.coe_zero]

/-- The row sum of those. -/
theorem sum_masked (i : Fin 4096) (μ : ℝ) :
    ∑ j, ((eR q k i j * Real.exp (-μ) : ℝ) : EReal) = ((zR q k i * Real.exp (-μ) : ℝ) : EReal) := by
  rw [← coe_sum, ← Finset.sum_mul, zR]

theorem shifted_pos (i : Fin 4096) (μ : ℝ) : 0 < zR q k i * Real.exp (-μ) := mul_pos (zR_pos q k i) (Real.exp_pos _)

/-- The quotient does not depend on the number subtracted. -/
theorem div_masked (i j : Fin 4096) (μ : ℝ) :
    Ideal.div ((eR q k i j * Real.exp (-μ) : ℝ) : EReal) ((zR q k i * Real.exp (-μ) : ℝ) : EReal) = (wR q k i j : EReal) := by
  rw [Ideal.div_coe (shifted_pos q k i μ).ne', ← EReal.coe_mul, wR]
  have h1 := (zR_pos q k i).ne'
  have h2 := (Real.exp_pos (-μ)).ne'
  congr 1
  field_simp

/-- The log of the row's sum, the number added back. -/
theorem lse_masked (i : Fin 4096) (μ : ℝ) :
    (μ : EReal) + Ideal.log ((zR q k i * Real.exp (-μ) : ℝ) : EReal) = (Real.log (zR q k i) : EReal) := by
  rw [Ideal.log_coe, if_neg (not_le.mpr (shifted_pos q k i μ)), ← EReal.coe_add,
    Real.log_mul (zR_pos q k i).ne' (Real.exp_pos _).ne', Real.log_exp]
  congr 1
  ring

/-- The gradient of a score, as differentiating the quotient writes it. -/
theorem dR_masked (i j : Fin 4096) (μ : ℝ) :
    (gR v g i j / (zR q k i * Real.exp (-μ)) + -(∑ x, gR v g i x * (1 / (zR q k i * Real.exp (-μ) * (zR q k i * Real.exp (-μ)))) * (eR q k i x * Real.exp (-μ))))
      * (eR q k i j * Real.exp (-μ)) = dR q k v g i j := by
  have h1 := (zR_pos q k i).ne'
  have h2 := (Real.exp_pos (-μ)).ne'
  have hs : (∑ x, gR v g i x * (1 / (zR q k i * Real.exp (-μ) * (zR q k i * Real.exp (-μ)))) * (eR q k i x * Real.exp (-μ)))
      = (∑ x, gR v g i x * wR q k i x) / (zR q k i * Real.exp (-μ)) := by
    rw [Finset.sum_div]
    refine Finset.sum_congr rfl fun x _ => ?_
    unfold wR
    field_simp
  rw [hs, dR]
  generalize (∑ x, gR v g i x * wR q k i x) = δ
  unfold wR
  field_simp
  ring

/-- The product of the output's gradient with the output is the weighted mean of its products with the values. -/
theorem delta_eq (i : Fin 4096) : ∑ e, g i e * (∑ j, v j e * wR q k i j) = ∑ j, gR v g i j * wR q k i j := by
  simp only [gR, Finset.sum_mul, Finset.mul_sum]
  rw [Finset.sum_comm]
  exact Finset.sum_congr rfl fun j _ => Finset.sum_congr rfl fun e _ => by ring

end Head

end Cert.Soft

end
-- ==== Proof.FlashRef.lean ====
module

public import proofs.«01_k».proof.Proof.FlashReal

/-! # The reference's gradients, entry by entry, on real arguments -/

@[expose] public section

set_option maxRecDepth 16384
set_option maxHeartbeats 4000000

noncomputable section

namespace Cert.ReferenceIdeal.Soft

open Cert.ReferenceIdeal.Gen Cert.ReferenceIdeal.Read Cert.Soft
open Idealize.ShloMosaic Idealize.ShloMosaic.TcCoe Idealize.ShloMosaic.Tactic

/-- Lane `d` of head `h`. -/
def col (h : Fin 8) (d : Fin 128) : Fin 1024 := ⟨h.val * 128 + d.val, by omega⟩

/-- A head's matrix. -/
def hd (a : Fin 4096 → Fin 1024 → ℝ) (h : Fin 8) (i : Fin 4096) (d : Fin 128) : ℝ := a i (col h d)

variable (x0 x1 x2 x3 : (⟨S4096x1024, .bf16⟩ : BufTy).Contents (Elt Ideal))
variable (a0 a1 a2 a3 : Fin 4096 → Fin 1024 → ℝ)

theorem v1_apply (h0 : ∀ i c, x0 (ix2 i c) = (a0 i c : EReal)) (h : Fin 8) (i : Fin 4096) (d : Fin 128) :
    val_main_v1 (F := Ideal) x0 (ix3 i h d) = (hd a0 h i d : EReal) := by
  pointwise [val_main_v1, val_main_v0]
  exact h0 i (col h d)

theorem v3_apply (h1 : ∀ i c, x1 (ix2 i c) = (a1 i c : EReal)) (h : Fin 8) (i : Fin 4096) (d : Fin 128) :
    val_main_v3 (F := Ideal) x1 (ix3 i h d) = (hd a1 h i d : EReal) := by
  pointwise [val_main_v3, val_main_v2]
  exact h1 i (col h d)

theorem v5_apply (h2 : ∀ i c, x2 (ix2 i c) = (a2 i c : EReal)) (h : Fin 8) (i : Fin 4096) (d : Fin 128) :
    val_main_v5 (F := Ideal) x2 (ix3 i h d) = (hd a2 h i d : EReal) := by
  pointwise [val_main_v5, val_main_v4]
  exact h2 i (col h d)

theorem v46_apply (h3 : ∀ i c, x3 (ix2 i c) = (a3 i c : EReal)) (h : Fin 8) (i : Fin 4096) (d : Fin 128) :
    val_main_v46 (F := Ideal) x3 (ix3 i h d) = (hd a3 h i d : EReal) := by
  pointwise [val_main_v46, val_main_v45]
  exact h3 i (col h d)

theorem v6_apply (h0 : ∀ i c, x0 (ix2 i c) = (a0 i c : EReal)) (h1 : ∀ i c, x1 (ix2 i c) = (a1 i c : EReal))
    (h : Fin 8) (i j : Fin 4096) :
    val_main_v6 (F := Ideal) x0 x1 (ix3 h i j) = (sR (hd a0 h) (hd a1 h) i j : EReal) := by
  pointwise [val_main_v6]
  simp only [v1_apply x0 a0 h0, v3_apply x1 a1 h1]
  exact coe_dot _ _

/-- The chunk number of a row, as the host's floor division gives it. -/
theorem chunk_apply : ∀ j : Fin 4096, (Scalar.select
    (IntOp.andi
      (IntOp.cmpi CmpIPredicate.ne
        (if BitVec.ofNat 32 j.val = 0 then (0 : BitVec 32) else if (BitVec.ofNat 32 j.val).msb = true then (-1 : BitVec 32) else (1 : BitVec 32))
        (if (64#32 : BitVec 32) = 0 then (0 : BitVec 32) else if BitVec.msb (64#32 : BitVec 32) = true then (-1 : BitVec 32) else (1 : BitVec 32)))
      (IntOp.cmpi CmpIPredicate.ne (IntOp.remsi ArithUnit.host (BitVec.ofNat 32 j.val) 64#32) 0#32))
    (IntOp.subi (IntOp.divsi ArithUnit.host (BitVec.ofNat 32 j.val) 64#32) 1#32)
    (IntOp.divsi ArithUnit.host (BitVec.ofNat 32 j.val) 64#32) : BitVec 32) = BitVec.ofNat 32 (j.val / 64) := by
  decide +kernel

theorem chunk_le : ∀ a b : Fin 64, IntOp.cmpi CmpIPredicate.sle (BitVec.ofNat 32 a.val) (BitVec.ofNat 32 b.val)
    = if a.val ≤ b.val then 1#1 else 0#1 := by
  decide +kernel

theorem v13_apply (i j : Fin 4096) : val_main_v13 (F := Ideal) (ix2 i j) = if seen i j then 1#1 else 0#1 := by
  pointwise [val_main_v13, val_main_v12, val_main_v11, val_main_v10, val_main_v9, val_main_v8, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_v7, val_main_c, val_main_call0_c, val_main_call0_c_0]
  refine (congrArg₂ (IntOp.cmpi CmpIPredicate.sle) (chunk_apply j) (chunk_apply i)).trans ?_
  exact chunk_le ⟨j.val / 64, by omega⟩ ⟨i.val / 64, by omega⟩

/-- The word of minus infinity. -/
theorem word_bot : Ideal.ofBits FTy.f32 4286578688#32 = ⊥ := by simp [Ideal.ofBits, Ideal.ieee]

theorem v14_apply (h0 : ∀ i c, x0 (ix2 i c) = (a0 i c : EReal)) (h1 : ∀ i c, x1 (ix2 i c) = (a1 i c : EReal))
    (h : Fin 8) (i j : Fin 4096) :
    val_main_v14_0 (F := Ideal) x0 x1 (ix3 h i j) = if seen i j then (sR (hd a0 h) (hd a1 h) i j : EReal) else ⊥ := by
  pointwise [val_main_v14_0, val_main_v14_1, val_main_call1_v0, val_main_call1_v2, val_main_cst]
  rw [v13_apply, v6_apply x0 x1 a0 a1 h0 h1]
  by_cases hs : seen i j
  · simp only [hs, if_true]; rfl
  · simp only [hs, if_false]
    exact word_bot

theorem v15_apply (h0 : ∀ i c, x0 (ix2 i c) = (a0 i c : EReal)) (h1 : ∀ i c, x1 (ix2 i c) = (a1 i c : EReal))
    (h : Fin 8) (i : Fin 4096) : ∃ μ : ℝ, val_main_v15 (F := Ideal) x0 x1 (ix2 h i) = (μ : EReal) := by
  have hv : val_main_v15 (F := Ideal) x0 x1 (ix2 h i) = Finset.univ.fold max ⊥ (fun j => val_main_v14_0 (F := Ideal) x0 x1 (ix3 h i j)) := by
    pointwise [val_main_v15, val_main_cst_0]
    rw [word_bot]
  rw [hv]
  refine fold_max _ (fun j => ?_) i ?_
  · rw [v14_apply x0 x1 a0 a1 h0 h1]
    split_ifs
    · exact EReal.coe_ne_top _
    · exact bot_ne_top
  · rw [v14_apply x0 x1 a0 a1 h0 h1, if_pos (seen_self i)]
    exact EReal.coe_ne_bot _

theorem v22_apply (h : Fin 8) (i : Fin 4096) : val_main_v22 (F := Ideal) x0 x1 (ix2 h i) = val_main_v15 (F := Ideal) x0 x1 (ix2 h i) := by
  rw [val_main_v22_apply, val_main_v21_apply, val_main_cst_2_apply]
  generalize val_main_v15 (F := Ideal) x0 x1 (ix2 h i) = y
  exact (congrArg (fun b => max b y) word_bot).trans (bot_sup_eq y)

/-- The row's number subtracted, its exponentials and their sum. -/
theorem row (h0 : ∀ i c, x0 (ix2 i c) = (a0 i c : EReal)) (h1 : ∀ i c, x1 (ix2 i c) = (a1 i c : EReal))
    (h : Fin 8) (i : Fin 4096) : ∃ μ : ℝ,
      (∀ j, val_main_v35 (F := Ideal) x0 x1 (ix3 h i j) = ((eR (hd a0 h) (hd a1 h) i j * Real.exp (-μ) : ℝ) : EReal))
      ∧ val_main_v37 (F := Ideal) x0 x1 (ix3 h i 0) = ((zR (hd a0 h) (hd a1 h) i * Real.exp (-μ) : ℝ) : EReal) := by
  obtain ⟨μ, hμ⟩ := v15_apply x0 x1 a0 a1 h0 h1 h i
  have e : ∀ j, val_main_v35 (F := Ideal) x0 x1 (ix3 h i j) = ((eR (hd a0 h) (hd a1 h) i j * Real.exp (-μ) : ℝ) : EReal) := by
    intro j
    pointwise [val_main_v35, val_main_v34, val_main_v33, val_main_v32]
    rw [v22_apply, hμ, v14_apply x0 x1 a0 a1 h0 h1]
    exact exp_masked _ _ i j μ
  refine ⟨μ, e, ?_⟩
  pointwise [val_main_v37, val_main_v36, val_main_cst_8]
  simp only [e]
  exact sum_masked _ _ i μ

theorem v48_sum (h2 : ∀ i c, x2 (ix2 i c) = (a2 i c : EReal)) (h3 : ∀ i c, x3 (ix2 i c) = (a3 i c : EReal))
    (h : Fin 8) (i j : Fin 4096) :
    ∑ e : Fin 128, (val_main_v46 (F := Ideal) x3 (ix3 i h e) : EReal) * val_main_v5 (F := Ideal) x2 (ix3 j h e)
      = (gR (hd a2 h) (hd a3 h) i j : EReal) := by
  simp only [v46_apply x3 a3 h3, v5_apply x2 a2 h2]
  exact coe_dot _ _

/-- The gradient of the scores. -/
theorem v63_apply (h0 : ∀ i c, x0 (ix2 i c) = (a0 i c : EReal)) (h1 : ∀ i c, x1 (ix2 i c) = (a1 i c : EReal))
    (h2 : ∀ i c, x2 (ix2 i c) = (a2 i c : EReal)) (h3 : ∀ i c, x3 (ix2 i c) = (a3 i c : EReal))
    (h : Fin 8) (i j : Fin 4096) :
    val_main_v63 (F := Ideal) x0 x1 x2 x3 (ix3 h i j) = (dR (hd a0 h) (hd a1 h) (hd a2 h) (hd a3 h) i j : EReal) := by
  obtain ⟨μ, he, hz⟩ := row x0 x1 a0 a1 h0 h1 h i
  pointwise [val_main_v63, val_main_v62, val_main_v61, val_main_v60, val_main_v59, val_main_v58, val_main_v57, val_main_v56, val_main_v55, val_main_v54, val_main_v53, val_main_v52, val_main_v51, val_main_v42, val_main_v41, val_main_v40, val_main_cst_10, val_main_cst_9, val_main_cst_11, val_main_call2_cst, val_main_call2_v0, val_main_v48, val_main_v47, val_main_v14_1]
  simp only [v48_sum x2 x3 a2 a3 h2 h3, he, hz]
  rw [v13_apply]
  by_cases hs : seen i j
  · simp only [hs, if_true]
    have hz0 := (shifted_pos (hd a0 h) (hd a1 h) i μ).ne'
    have key := dR_masked (hd a0 h) (hd a1 h) (hd a2 h) (hd a3 h) i j μ
    refine Eq.trans ?_ (congrArg _ key)
    show (Ideal.div _ _ + ∑ x : Fin 1, -∑ x, _ * Ideal.div 1 _ * _) * _ = _
    rw [← EReal.coe_mul, Ideal.div_coe hz0, Ideal.div_coe (mul_ne_zero hz0 hz0), one_mul, Finset.sum_const]
    simp only [← EReal.coe_mul, ← coe_sum, ← EReal.coe_neg, Finset.card_univ, Fintype.card_fin, one_smul, ← EReal.coe_add]
    rw [mul_one_div]
  · simp only [hs, if_false, dR, wR_unseen _ _ i j hs, zero_mul, EReal.coe_zero]
    rfl

theorem dq_apply (h0 : ∀ i c, x0 (ix2 i c) = (a0 i c : EReal)) (h1 : ∀ i c, x1 (ix2 i c) = (a1 i c : EReal))
    (h2 : ∀ i c, x2 (ix2 i c) = (a2 i c : EReal)) (h3 : ∀ i c, x3 (ix2 i c) = (a3 i c : EReal))
    (i : Fin 4096) (h : Fin 8) (d : Fin 128) : val_main_v68 (F := Ideal) x0 x1 x2 x3 (ix2 i (col h d))
      = ((∑ j, dR (hd a0 h) (hd a1 h) (hd a2 h) (hd a3 h) i j * hd a1 h j d : ℝ) : EReal) := by
  have hh : (⟨(col h d).val / 128, by have := (col h d).isLt; omega⟩ : Fin 8) = h := Fin.ext (by
    show (h.val * 128 + d.val) / 128 = h.val; omega)
  have hd' : (⟨(col h d).val % 128, by omega⟩ : Fin 128) = d := Fin.ext (by
    show (h.val * 128 + d.val) % 128 = d.val; omega)
  have key : ∀ c : Fin 1024, val_main_v68 (F := Ideal) x0 x1 x2 x3 (ix2 i c) = ∑ x, (val_main_v63 (F := Ideal) x0 x1 x2 x3
      (ix3 ⟨c.val / 128, by have := c.isLt; omega⟩ i x) : EReal) * val_main_v3 (F := Ideal) x1
      (ix3 x ⟨c.val / 128, by have := c.isLt; omega⟩ ⟨c.val % 128, by omega⟩) := by
    intro c
    pointwise [val_main_v68, val_main_v67, val_main_v66]
  rw [key (col h d), hh, hd']
  simp only [v63_apply x0 x1 x2 x3 a0 a1 a2 a3 h0 h1 h2 h3, v3_apply x1 a1 h1]
  exact coe_dot _ _

theorem dk_apply (h0 : ∀ i c, x0 (ix2 i c) = (a0 i c : EReal)) (h1 : ∀ i c, x1 (ix2 i c) = (a1 i c : EReal))
    (h2 : ∀ i c, x2 (ix2 i c) = (a2 i c : EReal)) (h3 : ∀ i c, x3 (ix2 i c) = (a3 i c : EReal))
    (j : Fin 4096) (h : Fin 8) (d : Fin 128) : val_main_v69 (F := Ideal) x0 x1 x2 x3 (ix2 j (col h d))
      = ((∑ i, dR (hd a0 h) (hd a1 h) (hd a2 h) (hd a3 h) i j * hd a0 h i d : ℝ) : EReal) := by
  have hh : (⟨(col h d).val / 128, by have := (col h d).isLt; omega⟩ : Fin 8) = h := Fin.ext (by
    show (h.val * 128 + d.val) / 128 = h.val; omega)
  have hd' : (⟨(col h d).val % 128, by omega⟩ : Fin 128) = d := Fin.ext (by
    show (h.val * 128 + d.val) % 128 = d.val; omega)
  have key : ∀ c : Fin 1024, val_main_v69 (F := Ideal) x0 x1 x2 x3 (ix2 j c) = ∑ x, (val_main_v63 (F := Ideal) x0 x1 x2 x3
      (ix3 ⟨c.val / 128, by have := c.isLt; omega⟩ x j) : EReal) * val_main_v1 (F := Ideal) x0
      (ix3 x ⟨c.val / 128, by have := c.isLt; omega⟩ ⟨c.val % 128, by omega⟩) := by
    intro c
    pointwise [val_main_v69, val_main_v65, val_main_v64]
  rw [key (col h d), hh, hd']
  simp only [v63_apply x0 x1 x2 x3 a0 a1 a2 a3 h0 h1 h2 h3, v1_apply x0 a0 h0]
  exact coe_dot _ _

theorem dv_apply (h0 : ∀ i c, x0 (ix2 i c) = (a0 i c : EReal)) (h1 : ∀ i c, x1 (ix2 i c) = (a1 i c : EReal))
    (h3 : ∀ i c, x3 (ix2 i c) = (a3 i c : EReal))
    (j : Fin 4096) (h : Fin 8) (d : Fin 128) : val_main_v70 (F := Ideal) x0 x1 x3 (ix2 j (col h d))
      = ((∑ i, wR (hd a0 h) (hd a1 h) i j * hd a3 h i d : ℝ) : EReal) := by
  have hh : (⟨(col h d).val / 128, by have := (col h d).isLt; omega⟩ : Fin 8) = h := Fin.ext (by
    show (h.val * 128 + d.val) / 128 = h.val; omega)
  have hd' : (⟨(col h d).val % 128, by omega⟩ : Fin 128) = d := Fin.ext (by
    show (h.val * 128 + d.val) % 128 = d.val; omega)
  have key : ∀ c : Fin 1024, val_main_v70 (F := Ideal) x0 x1 x3 (ix2 j c) = ∑ x, (val_main_v46 (F := Ideal) x3
      (ix3 x ⟨c.val / 128, by have := c.isLt; omega⟩ ⟨c.val % 128, by omega⟩) : EReal) *
      Ideal.div (val_main_v35 (F := Ideal) x0 x1 (ix3 ⟨c.val / 128, by have := c.isLt; omega⟩ x j))
        (val_main_v37 (F := Ideal) x0 x1 (ix3 ⟨c.val / 128, by have := c.isLt; omega⟩ x 0)) := by
    intro c
    pointwise [val_main_v70, val_main_v50, val_main_v49, val_main_v47, val_main_v39, val_main_v38]
  rw [key (col h d), hh, hd', coe_sum]
  refine Finset.sum_congr rfl fun i _ => ?_
  obtain ⟨μ, he, hz⟩ := row x0 x1 a0 a1 h0 h1 h i
  rw [he, hz, div_masked, v46_apply x3 a3 h3, ← EReal.coe_mul, mul_comm]

end Cert.ReferenceIdeal.Soft

end
-- ==== Proof.FlashHost.lean ====
module

public import proofs.«01_k».proof.Proof.FlashFrame
public import proofs.«01_k».proof.Proof.FlashRef
public import Idealize.ShloMosaic.Lib.StableHlo.RunRead

/-! # The output and the rows' log-sums, as the kernel's host lines prepare them -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic Idealize.ShloMosaic.StableHlo
open Cert.ReferenceIdeal.Read (val_main_v14_0 val_main_v5)

variable {F : FTy → Type} [FloatOps F] [Named F]

section Terms
variable (S : (⟨S8x4096x4096, .f32⟩ : BufTy).Contents (Elt F)) (x2 : (⟨S4096x1024, .bf16⟩ : BufTy).Contents (Elt F))

/-- A row's maximum, -/
def rowMax : (⟨S8x4096x1, .f32⟩ : BufTy).Contents (Elt F) :=
  broadcastInDim S8x4096x1 ![0, 1] bcast_S8x4096_S8x4096x1_0_1
    (Host.reduce FloatOps.maximumf S (constant S_ .f32 0xFF800000#32) reducesTo_S8x4096x4096_S8x4096_d2 h_S_)

/-- the exponentials of the scores less it, -/
def rowExp : (⟨S8x4096x4096, .f32⟩ : BufTy).Contents (Elt F) :=
  Host.exp (subf S (broadcastInDim S8x4096x4096 ![0, 1, 2] bcast_S8x4096x1_S8x4096x4096_0_1_2 (rowMax S)))

/-- and their sum. -/
def rowSum : (⟨S8x4096x1, .f32⟩ : BufTy).Contents (Elt F) :=
  broadcastInDim S8x4096x1 ![0, 1] bcast_S8x4096_S8x4096x1_0_1
    (Host.reduceAdd (rowExp S) (constant S_ .f32 0x00000000#32) reducesTo_S8x4096x4096_S8x4096_d2 h_S_)

/-- The log-sum, on 128 lanes. -/
def lseOf : (⟨S8x4096x128, .f32⟩ : BufTy).Contents (Elt F) :=
  broadcastInDim S8x4096x128 ![0, 1, 2] bcast_S8x4096x1_S8x4096x128_0_1_2 (addf (rowMax S) (Host.log (rowSum S)))

/-- The attention's output. -/
def outOf : (⟨S4096x1024, .bf16⟩ : BufTy).Contents (Elt F) :=
  truncf .bf16 (shapeCast S4096x1024 (transpose S4096x8x128 [2, 0, 1]
    (Host.dotGeneral dot_S4096x8x128_S8x4096x4096_S8x128x4096_0_2_2_1_1_0 none
      (shapeCast S4096x8x128 (extf .f32 x2 bitsLt_bf16_f32) shapeCasts_S4096x1024_S4096x8x128)
      (Host.divf (rowExp S) (broadcastInDim S8x4096x4096 ![0, 1, 2] bcast_S8x4096x1_S8x4096x4096_0_1_2 (rowSum S))))
    transposes_S8x128x4096_S4096x8x128_2_0_1) shapeCasts_S4096x8x128_S4096x1024) bitsLt_bf16_f32
end Terms

theorem after_app (l₁ l₂ : List (HloOp τ sig (Elt F))) (W : Valuation τ sig (Elt F)) : after (l₁ ++ l₂) W = after l₂ (after l₁ W) := by
  induction l₁ generalizing W with
  | nil => rfl
  | cons op l ih => exact ih _

theorem last_lse (W : Valuation τ sig (Elt F)) : after (hostOps0_4 (F := F)) W (Proc.devRef .tc main_v33) = lseOf (W (Proc.devRef .tc main_v12)) := by
  unfold hostOps0_4
  after_results_simp
  rfl

theorem last_out (W : Valuation τ sig (Elt F)) : after (hostOps0_4 (F := F)) W (Proc.devRef .tc main_v30)
    = outOf (W (Proc.devRef .tc main_v12)) (W (Proc.devRef .tc main_arg2)) := by
  unfold hostOps0_4
  after_results_simp
  rfl

theorem first_scores (W : Valuation τ sig (Elt F)) : after (hostOps0 (F := F) ++ hostOps0_1 ++ hostOps0_2 ++ hostOps0_3) W (Proc.devRef .tc main_v12)
    = val_main_v14_0 (F := F) (W (Proc.devRef .tc main_arg0)) (W (Proc.devRef .tc main_arg1)) := by
  unfold hostOps0 hostOps0_1 hostOps0_2 hostOps0_3
  simp only [List.cons_append, List.nil_append]
  after_results_simp
  rfl

theorem first_arg2 (W : Valuation τ sig (Elt F)) : after (hostOps0 (F := F) ++ hostOps0_1 ++ hostOps0_2 ++ hostOps0_3) W (Proc.devRef .tc main_arg2)
    = W (Proc.devRef .tc main_arg2) := by
  unfold hostOps0 hostOps0_1 hostOps0_2 hostOps0_3
  simp only [List.cons_append, List.nil_append]
  after_results_simp

end Cert.KernelIdeal.Flash

end
-- ==== Proof.FlashSaved.lean ====
module

public import proofs.«01_k».proof.Proof.FlashHost

/-! # The saved output and log-sums, entry by entry, on real arguments -/

@[expose] public section

set_option maxRecDepth 16384
set_option maxHeartbeats 1000000

noncomputable section

namespace Cert.KernelIdeal.Flash

open Cert.KernelIdeal.Gen Cert.Soft
open Idealize.ShloMosaic Idealize.ShloMosaic.TcCoe Idealize.ShloMosaic.Tactic
open Cert.ReferenceIdeal.Read (val_main_v14_0)
open Cert.ReferenceIdeal.Soft (col hd v14_apply word_bot)

variable (S : (⟨S8x4096x4096, .f32⟩ : BufTy).Contents (Elt Ideal)) (x2 : (⟨S4096x1024, .bf16⟩ : BufTy).Contents (Elt Ideal))

theorem rowMax_apply (h : Fin 8) (i : Fin 4096) :
    rowMax (F := Ideal) S (ix3 h i 0) = Finset.univ.fold max ⊥ (fun j => S (ix3 h i j)) := by
  pointwise [rowMax]
  rw [word_bot]

theorem rowExp_apply (h : Fin 8) (i j : Fin 4096) :
    rowExp (F := Ideal) S (ix3 h i j) = Ideal.exp ((S (ix3 h i j) : EReal) - rowMax (F := Ideal) S (ix3 h i 0)) := by
  pointwise [rowExp]

theorem rowSum_apply (h : Fin 8) (i : Fin 4096) :
    rowSum (F := Ideal) S (ix3 h i 0) = ∑ j, (rowExp (F := Ideal) S (ix3 h i j) : EReal) := by
  pointwise [rowSum]

/-- A row's two numbers added, the second's logarithm, on 128 lanes. -/
def lanes {F : FTy → Type} [FloatOps F] (M Z : (⟨S8x4096x1, .f32⟩ : BufTy).Contents (Elt F)) : (⟨S8x4096x128, .f32⟩ : BufTy).Contents (Elt F) :=
  broadcastInDim S8x4096x128 ![0, 1, 2] bcast_S8x4096x1_S8x4096x128_0_1_2 (addf M (Host.log Z))

theorem lane_sum (M Z : (⟨S8x4096x1, .f32⟩ : BufTy).Contents (Elt Ideal)) (h : Fin 8) (i : Fin 4096) (d : Fin 128) :
    lanes (F := Ideal) M Z (ix3 h i d) = (M (ix3 h i 0) : EReal) + Ideal.log (Z (ix3 h i 0)) := by
  pointwise [lanes]

theorem lseOf_apply (h : Fin 8) (i : Fin 4096) (d : Fin 128) :
    lseOf (F := Ideal) S (ix3 h i d) = (rowMax (F := Ideal) S (ix3 h i 0) : EReal) + Ideal.log (rowSum (F := Ideal) S (ix3 h i 0)) :=
  lane_sum (rowMax S) (rowSum S) h i d

theorem outOf_apply (i : Fin 4096) (c : Fin 1024) : outOf (F := Ideal) S x2 (ix2 i c)
    = ∑ x : Fin 4096, (x2 (ix2 x c) : EReal) *
        Ideal.div (rowExp (F := Ideal) S (ix3 ⟨c.val / 128, by have := c.isLt; omega⟩ i x))
          (rowSum (F := Ideal) S (ix3 ⟨c.val / 128, by have := c.isLt; omega⟩ i 0)) := by
  pointwise [outOf]

variable (x0 x1 : (⟨S4096x1024, .bf16⟩ : BufTy).Contents (Elt Ideal))
variable (a0 a1 a2 : Fin 4096 → Fin 1024 → ℝ)

/-- A row's maximum is real, and its exponentials and their sum are the unshifted ones times one factor. -/
theorem saved_row (h0 : ∀ i c, x0 (ix2 i c) = (a0 i c : EReal)) (h1 : ∀ i c, x1 (ix2 i c) = (a1 i c : EReal))
    (h : Fin 8) (i : Fin 4096) : ∃ μ : ℝ,
      rowMax (F := Ideal) (val_main_v14_0 (F := Ideal) x0 x1) (ix3 h i 0) = (μ : EReal)
      ∧ (∀ j, rowExp (F := Ideal) (val_main_v14_0 (F := Ideal) x0 x1) (ix3 h i j) = ((eR (hd a0 h) (hd a1 h) i j * Real.exp (-μ) : ℝ) : EReal))
      ∧ rowSum (F := Ideal) (val_main_v14_0 (F := Ideal) x0 x1) (ix3 h i 0) = ((zR (hd a0 h) (hd a1 h) i * Real.exp (-μ) : ℝ) : EReal) := by
  have hS := v14_apply x0 x1 a0 a1 h0 h1
  revert hS
  generalize val_main_v14_0 (F := Ideal) x0 x1 = S
  intro hS
  have hv : rowMax (F := Ideal) S (ix3 h i 0) = Finset.univ.fold max ⊥ (fun j => S (ix3 h i j)) := by
    exact rowMax_apply S h i
  obtain ⟨μ, hμ⟩ := fold_max (fun j => S (ix3 h i j)) (fun j => by
    rw [hS]; split_ifs
    · exact EReal.coe_ne_top _
    · exact bot_ne_top) i (by
    show S (ix3 h i i) ≠ ⊥
    rw [hS, if_pos (seen_self i)]
    exact EReal.coe_ne_bot _)
  rw [hμ] at hv
  have he : ∀ j, rowExp (F := Ideal) S (ix3 h i j) = ((eR (hd a0 h) (hd a1 h) i j * Real.exp (-μ) : ℝ) : EReal) := by
    intro j
    rw [rowExp_apply, hv, hS]
    exact exp_masked _ _ i j μ
  refine ⟨μ, hv, he, ?_⟩
  rw [rowSum_apply]
  simp only [he]
  exact sum_masked _ _ i μ

theorem lse_apply (h0 : ∀ i c, x0 (ix2 i c) = (a0 i c : EReal)) (h1 : ∀ i c, x1 (ix2 i c) = (a1 i c : EReal))
    (h : Fin 8) (i : Fin 4096) (d : Fin 128) :
    lseOf (F := Ideal) (val_main_v14_0 (F := Ideal) x0 x1) (ix3 h i d) = (Real.log (zR (hd a0 h) (hd a1 h) i) : EReal) := by
  obtain ⟨μ, hμ, he, hz⟩ := saved_row x0 x1 a0 a1 h0 h1 h i
  revert hμ he hz
  generalize val_main_v14_0 (F := Ideal) x0 x1 = S
  intro hμ he hz
  rw [lseOf_apply, hμ, hz]
  exact lse_masked _ _ i μ

theorem out_apply (h0 : ∀ i c, x0 (ix2 i c) = (a0 i c : EReal)) (h1 : ∀ i c, x1 (ix2 i c) = (a1 i c : EReal))
    (h2 : ∀ i c, x2 (ix2 i c) = (a2 i c : EReal)) (h : Fin 8) (i : Fin 4096) (d : Fin 128) :
    outOf (F := Ideal) (val_main_v14_0 (F := Ideal) x0 x1) x2 (ix2 i (col h d))
      = ((∑ j, hd a2 h j d * wR (hd a0 h) (hd a1 h) i j : ℝ) : EReal) := by
  obtain ⟨μ, hμ, he, hz⟩ := saved_row x0 x1 a0 a1 h0 h1 h i
  revert hμ he hz
  generalize val_main_v14_0 (F := Ideal) x0 x1 = S
  intro hμ he hz
  have hh : (⟨(col h d).val / 128, by have := (col h d).isLt; omega⟩ : Fin 8) = h := Fin.ext (by
    show (h.val * 128 + d.val) / 128 = h.val; omega)
  rw [outOf_apply, hh, coe_sum]
  refine Finset.sum_congr rfl fun x _ => ?_
  rw [he, hz, div_masked, h2 x (col h d), ← EReal.coe_mul]
  rfl

end Cert.KernelIdeal.Flash

end
-- ==== Proof.FlashPay.lean ====
module

public import proofs.«01_k».proof.Proof.FlashModel
public import Idealize.ShloMosaic.Lib.Pointwise
public import Idealize.ShloMosaic.Lib.ValueIdx

/-! # The attention gradient's block products, entry by entry -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic

/-- The lane at which a block of 512 columns reads a row's broadcast number. -/
def lane (q : Fin 512) : Fin 128 := ⟨q.val % 128, Nat.mod_lt _ (by norm_num)⟩

theorem pay1_apply (A B : Vec Ideal S512x128 .bf16) (p : Fin 512) (d : Fin 128) :
    k0_pay1 (F := Ideal) A B (ix2 p d) = ∑ e : Fin 128, A (ix2 p e) * B (ix2 p e) := by
  pointwise [k0_pay1]

theorem pay15_apply (K Q : Vec Ideal S512x128 .bf16) (p q : Fin 512) :
    k0_pay15 (F := Ideal) K Q (ix2 p q) = ∑ e : Fin 128, Q (ix2 p e) * K (ix2 q e) := by
  pointwise [k0_pay15]

/-- Four copies of 128 lanes side by side: column `q` reads lane `q mod 128`. -/
theorem lane_cases {α : Type} (f : Fin 128 → α) (q : Fin 512)
    (h1 : q.val < 128 → q.val < 128) (h2 : q.val - 128 < 128 → q.val - 128 < 128)
    (h3 : q.val - 128 - 128 < 128 → q.val - 128 - 128 < 128) (h4 : q.val - 128 - 128 - 128 < 128) :
    (if h : q.val < 128 then f ⟨q.val, h1 h⟩
      else if h : q.val - 128 < 128 then f ⟨q.val - 128, h2 h⟩
      else if h : q.val - 128 - 128 < 128 then f ⟨q.val - 128 - 128, h3 h⟩
      else f ⟨q.val - 128 - 128 - 128, h4⟩) = f (lane q) := by
  unfold lane
  split_ifs <;> exact congrArg f (Fin.ext (by have := q.isLt; simp only; omega))

theorem pay4_apply (K Q : Vec Ideal S512x128 .bf16) (L : Vec Ideal S1x512x128 .f32) (p q : Fin 512) :
    k0_pay4 (F := Ideal) K Q L (ix2 p q) =
      Ideal.exp ((∑ e : Fin 128, Q (ix2 p e) * K (ix2 q e)) - L (ix3 0 p (lane q))) := by
  pointwise [k0_pay4]
  exact congrArg (fun y => Ideal.exp (_ - y)) (lane_cases (fun a => L (ix3 0 p a)) q id id id (by omega))

theorem pay5_apply (K V Q DO : Vec Ideal S512x128 .bf16) (L : Vec Ideal S1x512x128 .f32)
    (D : Vec Ideal S512x128 .f32) (p q : Fin 512) :
    k0_pay5 (F := Ideal) K V Q DO L D (ix2 p q) = k0_pay4 (F := Ideal) K Q L (ix2 p q) *
      ((∑ e : Fin 128, DO (ix2 p e) * V (ix2 q e)) - D (ix2 p (lane q))) := by
  pointwise [k0_pay5]
  exact congrArg (fun y => _ * (_ - y)) (lane_cases (fun a => D (ix2 p a)) q id id id (by omega))

theorem pay6_apply (K : Vec Ideal S512x128 .bf16) (X : FVec Ideal S512x128 .f32) (Q DO : Vec Ideal S512x128 .bf16)
    (L : Vec Ideal S1x512x128 .f32) (q : Fin 512) (d : Fin 128) :
    k0_pay6 (F := Ideal) K X Q DO L (ix2 q d) =
      X (ix2 q d) + ∑ p : Fin 512, k0_pay4 (F := Ideal) K Q L (ix2 p q) * DO (ix2 p d) := by
  pointwise [k0_pay6]

theorem pay7_apply (K V : Vec Ideal S512x128 .bf16) (X : FVec Ideal S512x128 .f32) (Q DO : Vec Ideal S512x128 .bf16)
    (L : Vec Ideal S1x512x128 .f32) (D : Vec Ideal S512x128 .f32) (q : Fin 512) (d : Fin 128) :
    k0_pay7 (F := Ideal) K V X Q DO L D (ix2 q d) =
      X (ix2 q d) + ∑ p : Fin 512, k0_pay5 (F := Ideal) K V Q DO L D (ix2 p q) * Q (ix2 p d) := by
  pointwise [k0_pay7]

theorem pay8_apply (K V : Vec Ideal S512x128 .bf16) (Q DO : Vec Ideal S512x128 .bf16)
    (L : Vec Ideal S1x512x128 .f32) (D X : Vec Ideal S512x128 .f32) (p : Fin 512) (d : Fin 128) :
    k0_pay8 (F := Ideal) K V Q DO L D X (ix2 p d) =
      X (ix2 p d) + ∑ q : Fin 512, k0_pay5 (F := Ideal) K V Q DO L D (ix2 p q) * K (ix2 q d) := by
  pointwise [k0_pay8]

/-- The chunk number of a row of a block. -/
theorem rowChunk (p q : Fin 512) : k0_pay16 (ix2 p q) = BitVec.ofNat 32 (p.val / 64) := by
  have key : ∀ a : Fin 512, k0_pay16 (ix2 a 0) = BitVec.ofNat 32 (a.val / 64) := by
    pointwise [k0_pay16]
    decide +kernel
  have h := key p
  pointwise [k0_pay16] at h ⊢
  exact h

/-- The chunk number of a column of a block. -/
theorem colChunk : ∀ q : Fin 512, Scalar.select
    (IntOp.andi
      (IntOp.cmpi CmpIPredicate.ne
        (IntOp.subi (BitVec.setWidth 32 (IntOp.cmpi CmpIPredicate.sgt (BitVec.ofNat 32 q.val) 0#32))
          (BitVec.setWidth 32 (IntOp.cmpi CmpIPredicate.slt (BitVec.ofNat 32 q.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 q.val) 64#32) 0#32))
    (IntOp.subi (IntOp.divsi ArithUnit.vector (BitVec.ofNat 32 q.val) 64#32) 1#32)
    (IntOp.divsi ArithUnit.vector (BitVec.ofNat 32 q.val) 64#32) = BitVec.ofNat 32 (q.val / 64) := by
  decide +kernel

theorem chunk_le : ∀ a b : Fin 8, IntOp.cmpi CmpIPredicate.sle (BitVec.ofNat 32 a.val) (BitVec.ofNat 32 b.val)
    = if a.val ≤ b.val then 1#1 else 0#1 := by
  decide +kernel

/-- The blocks' mask compares chunk numbers. -/
theorem pay18_apply (S : FVec Ideal S512x512 .f32) (L : Vec Ideal S1x512x128 .f32) (p q : Fin 512) :
    k0_pay18 (F := Ideal) S k0_pay16 (iota .tc S512x512 32 [1] iota_S512x512_d1_w32) 64#32 k0_pay17 0#32 L (ix2 p q) =
      if q.val / 64 ≤ p.val / 64 then Ideal.exp (S (ix2 p q) - L (ix3 0 p (lane q))) else 0 := by
  pointwise [k0_pay18, k0_pay17, rowChunk]
  have hm : (Named.named (F := Ideal) κ "mask" 4048155338#32 : Ideal .f32) = (⊥ : EReal) := rfl
  refine (congrArg (fun y => Ideal.exp (_ - y)) (lane_cases (fun a => L (ix3 0 p a)) q id id id (by omega))).trans ?_
  rw [colChunk q, hm, chunk_le ⟨q.val / 64, by omega⟩ ⟨p.val / 64, by omega⟩]
  by_cases h : q.val / 64 ≤ p.val / 64
  · simp only [h, if_true]; rfl
  · simp only [h, if_false]
    show Ideal.exp (⊥ - _) = 0
    rw [EReal.bot_sub]
    rfl

theorem pay19_apply (V DO : Vec Ideal S512x128 .bf16) (S : FVec Ideal S512x512 .f32) (L : Vec Ideal S1x512x128 .f32)
    (D : Vec Ideal S512x128 .f32) (p q : Fin 512) (c40 c41 c43 : IVec S512x512 32) (c64 c0 : BitVec 32) :
    k0_pay19 (F := Ideal) V DO S c40 c41 c64 c43 c0 L D (ix2 p q) = k0_pay18 (F := Ideal) S c40 c41 c64 c43 c0 L (ix2 p q) *
      ((∑ e : Fin 128, DO (ix2 p e) * V (ix2 q e)) - D (ix2 p (lane q))) := by
  pointwise [k0_pay19]
  exact congrArg (fun y => _ * (_ - y)) (lane_cases (fun a => D (ix2 p a)) q id id id (by omega))

theorem pay20_apply (X : FVec Ideal S512x128 .f32) (DO : Vec Ideal S512x128 .bf16) (S : FVec Ideal S512x512 .f32)
    (L : Vec Ideal S1x512x128 .f32) (q : Fin 512) (d : Fin 128) (c40 c41 c43 : IVec S512x512 32) (c64 c0 : BitVec 32) :
    k0_pay20 (F := Ideal) X DO S c40 c41 c64 c43 c0 L (ix2 q d) = X (ix2 q d) +
      ∑ p : Fin 512, k0_pay18 (F := Ideal) S c40 c41 c64 c43 c0 L (ix2 p q) * DO (ix2 p d) := by
  pointwise [k0_pay20]

theorem pay21_apply (V : Vec Ideal S512x128 .bf16) (X : FVec Ideal S512x128 .f32) (Q DO : Vec Ideal S512x128 .bf16)
    (S : FVec Ideal S512x512 .f32) (L : Vec Ideal S1x512x128 .f32) (D : Vec Ideal S512x128 .f32)
    (q : Fin 512) (d : Fin 128) (c40 c41 c43 : IVec S512x512 32) (c64 c0 : BitVec 32) :
    k0_pay21 (F := Ideal) V X Q DO S c40 c41 c64 c43 c0 L D (ix2 q d) = X (ix2 q d) +
      ∑ p : Fin 512, k0_pay19 (F := Ideal) V DO S c40 c41 c64 c43 c0 L D (ix2 p q) * Q (ix2 p d) := by
  pointwise [k0_pay21]

theorem pay3_apply (K : Vec Ideal S512x128 .bf16) (DS : FVec Ideal S512x512 .bf16) (X : Vec Ideal S512x128 .f32)
    (p : Fin 512) (d : Fin 128) :
    k0_pay3 (F := Ideal) K DS (k0_pay22 X) (constant S512x128 .f32 0x00000000#32) (ix2 p d) =
      X (ix2 p d) + ∑ q : Fin 512, DS (ix2 p q) * K (ix2 q d) := by
  pointwise [k0_pay3, k0_pay22]

theorem pay2_apply (p : Fin 512) (d : Fin 128) : k0_pay2 (F := Ideal) (ix2 p d) = 0 := by
  pointwise [k0_pay2]

theorem pay14_apply (p : Fin 512) (d : Fin 128) : k0_pay14 (F := Ideal) (ix2 p d) = 0 := by
  pointwise [k0_pay14]

end Cert.KernelIdeal.Flash

end
-- ==== Proof.FlashSum.lean ====
module

public import proofs.«01_k».proof.Proof.FlashPay
public import proofs.«01_k».proof.Proof.FlashBody

/-! # The attention gradient's blocks add up to sums over all rows

`pT i j` is the weight of key row `j` for query row `i` and `dT i j` the gradient of that score, both
zero where the row's chunk does not reach `j`.  A block above the diagonal adds nothing, so the sums
the kernel takes over the blocks it visits are sums over all rows. -/

@[expose] public section

set_option maxRecDepth 16384
set_option maxHeartbeats 4000000

noncomputable section

namespace Cert.KernelIdeal.Flash

open Cert.KernelIdeal.Gen
open Idealize.ShloMosaic Idealize.ShloMosaic.TcCoe Idealize.ShloMosaic.Tactic

/-- Row `p` of block `r`. -/
def at' (r : Fin 8) (p : Fin 512) : Fin 4096 := ⟨512 * r.val + p.val, by omega⟩

/-- The lane at which row `j` reads a broadcast number. -/
def laneOf (j : Fin 4096) : Fin 128 := ⟨j.val % 128, Nat.mod_lt _ (by norm_num)⟩

theorem laneOf_at (r : Fin 8) (q : Fin 512) : laneOf (at' r q) = lane q :=
  Fin.ext (by show (512 * r.val + q.val) % 128 = q.val % 128; omega)

theorem rows_at {e : EltTy} (X : Vec Ideal S4096x128 e) (r : Fin 8) (p : Fin 512) (d : Fin 128) :
    rows X r (ix2 p d) = X (ix2 (at' r p) d) := rows_apply X r p d

theorem lrows_at (X : Vec Ideal S1x4096x128 .f32) (r : Fin 8) (p : Fin 512) (d : Fin 128) :
    lrows X r (ix3 0 p d) = X (ix3 0 (at' r p) d) := lrows_apply X r 0 p d

theorem at'_surj (i : Fin 4096) : ∃ r p, i = at' r p :=
  ⟨⟨i.val / 512, by omega⟩, ⟨i.val % 512, by omega⟩, Fin.ext (by
    show i.val = 512 * (i.val / 512) + i.val % 512; omega)⟩

theorem ofRows_at {e : EltTy} (f : Fin 8 → Vec Ideal S512x128 e) (r : Fin 8) (p : Fin 512) (d : Fin 128) :
    ofRows f (ix2 (at' r p) d) = f r (ix2 p d) :=
  (rows_at (ofRows f) r p d).symm.trans (congrFun (rows_ofRows f r) _)

/-- A sum over all rows is a sum over the blocks of sums over their rows. -/
theorem sum_blocks (f : Fin 4096 → EReal) : ∑ r : Fin 8, ∑ p : Fin 512, f (at' r p) = ∑ i, f i := by
  refine Eq.trans ?_ (Fin.sum_univ_tiles 8 512 rfl f).symm
  refine Finset.sum_congr rfl fun r _ => Finset.sum_congr rfl fun p _ => congrArg f (Fin.ext ?_)
  show 512 * r.val + p.val = r.val * 512 + p.val
  omega

/-- The first `n` of eight numbers, added up. -/
def upTo (f : Fin 8 → EReal) (n : ℕ) : EReal := ∑ r ∈ Finset.range n, if h : r < 8 then f ⟨r, h⟩ else 0

theorem upTo_zero (f : Fin 8 → EReal) : upTo f 0 = 0 := Finset.sum_range_zero _

theorem upTo_succ (f : Fin 8 → EReal) (n : ℕ) (h : n < 8) : upTo f (n + 1) = upTo f n + f ⟨n, h⟩ := by
  unfold upTo
  rw [Finset.sum_range_succ, dif_pos h]

theorem upTo_eight (f : Fin 8 → EReal) : upTo f 8 = ∑ r, f r := by
  unfold upTo
  rw [Finset.sum_range]
  exact Finset.sum_congr rfl fun r _ => dif_pos r.isLt

/-- Nothing before the diagonal. -/
theorem upTo_first (f : Fin 8 → EReal) (k : Fin 8) (hf : ∀ r, r < k → f r = 0) : upTo f k.val = 0 :=
  Finset.sum_eq_zero fun r hr => by
    have := Finset.mem_range.mp hr
    rw [dif_pos (by omega)]
    exact hf _ this

section Sums
variable (Q K V DO O : Vec Ideal S4096x128 .bf16) (L : Vec Ideal S1x4096x128 .f32) (D : Vec Ideal S4096x128 .f32)

/-- The weight of key row `j` for query row `i`. -/
def pT (i j : Fin 4096) : EReal :=
  if j.val / 64 ≤ i.val / 64 then
    Ideal.exp ((∑ e : Fin 128, (Q (ix2 i e) : EReal) * K (ix2 j e)) - L (ix3 0 i (laneOf j))) else 0

/-- The gradient of the score of key row `j` for query row `i`. -/
def dT (i j : Fin 4096) : EReal :=
  pT Q K L i j * ((∑ e : Fin 128, (DO (ix2 i e) : EReal) * V (ix2 j e)) - D (ix2 i (laneOf j)))

theorem pT_above (r k : Fin 8) (h : r < k) (p q : Fin 512) : pT Q K L (at' r p) (at' k q) = 0 := by
  have h' : r.val < k.val := h
  refine if_neg ?_
  show ¬ ((512 * k.val + q.val) / 64 ≤ (512 * r.val + p.val) / 64)
  omega

theorem dT_above (r k : Fin 8) (h : r < k) (p q : Fin 512) : dT Q K V DO L D (at' r p) (at' k q) = 0 := by
  unfold dT
  rw [pT_above Q K L r k h, zero_mul]

theorem off_p (r k : Fin 8) (h : k < r) (p q : Fin 512) :
    k0_pay4 (F := Ideal) (rows K k) (rows Q r) (lrows L r) (ix2 p q) = pT Q K L (at' r p) (at' k q) := by
  have h' : k.val < r.val := h
  rw [pay4_apply, pT, if_pos (by show (512 * k.val + q.val) / 64 ≤ (512 * r.val + p.val) / 64; omega), laneOf_at, lrows_at]
  simp only [rows_at]

theorem off_d (r k : Fin 8) (h : k < r) (p q : Fin 512) :
    k0_pay5 (F := Ideal) (rows K k) (rows V k) (rows Q r) (rows DO r) (lrows L r) (rows D r) (ix2 p q)
      = dT Q K V DO L D (at' r p) (at' k q) := by
  rw [pay5_apply, off_p Q K L r k h, dT, laneOf_at]
  simp only [rows_at]

theorem diag_p (k : Fin 8) (p q : Fin 512) :
    k0_pay18 (F := Ideal) (diagS Q K k) k0_pay16 (iota .tc S512x512 32 [1] iota_S512x512_d1_w32) 64#32 k0_pay17 0#32 (lrows L k) (ix2 p q)
      = pT Q K L (at' k p) (at' k q) := by
  have hc : (q.val / 64 ≤ p.val / 64) = ((at' k q).val / 64 ≤ (at' k p).val / 64) := propext (by
    show q.val / 64 ≤ p.val / 64 ↔ (512 * k.val + q.val) / 64 ≤ (512 * k.val + p.val) / 64
    omega)
  rw [pay18_apply, pT, laneOf_at, lrows_at, diagS, pay15_apply]
  simp only [rows_at, hc]

theorem diag_d (k : Fin 8) (p q : Fin 512) :
    diagDS Q K V DO L D k (ix2 p q) = dT Q K V DO L D (at' k p) (at' k q) := by
  unfold diagDS
  rw [pay19_apply, diag_p, dT, laneOf_at]
  simp only [rows_at]

/-- What query block `r` adds to key block `k`'s gradients, and key block `k` to query block `r`'s. -/
def vShare (k : Fin 8) (q : Fin 512) (d : Fin 128) (r : Fin 8) : EReal :=
  ∑ p : Fin 512, pT Q K L (at' r p) (at' k q) * DO (ix2 (at' r p) d)
def kShare (k : Fin 8) (q : Fin 512) (d : Fin 128) (r : Fin 8) : EReal :=
  ∑ p : Fin 512, dT Q K V DO L D (at' r p) (at' k q) * Q (ix2 (at' r p) d)
def qShare (r : Fin 8) (p : Fin 512) (d : Fin 128) (k : Fin 8) : EReal :=
  ∑ q : Fin 512, dT Q K V DO L D (at' r p) (at' k q) * K (ix2 (at' k q) d)

theorem vShare_above (k : Fin 8) (q : Fin 512) (d : Fin 128) (r : Fin 8) (h : r < k) : vShare Q K DO L k q d r = 0 :=
  Finset.sum_eq_zero fun p _ => by rw [pT_above Q K L r k h, zero_mul]

theorem kShare_above (k : Fin 8) (q : Fin 512) (d : Fin 128) (r : Fin 8) (h : r < k) : kShare Q K V DO L D k q d r = 0 :=
  Finset.sum_eq_zero fun p _ => by rw [dT_above Q K V DO L D r k h, zero_mul]

theorem carry_sum (k : Fin 8) (q : Fin 512) (d : Fin 128) (j : ℕ) (hj : k.val + j < 8) :
    (carry Q K V DO L D k j).1 (ix2 q d) = upTo (kShare Q K V DO L D k q d) (k.val + j + 1)
    ∧ (carry Q K V DO L D k j).2 (ix2 q d) = upTo (vShare Q K DO L k q d) (k.val + j + 1) := by
  induction j with
  | zero =>
    refine ⟨?_, ?_⟩
    · refine Eq.trans ?_ (upTo_succ _ k.val k.isLt).symm
      rw [upTo_first _ k (kShare_above Q K V DO L D k q d)]
      show diagDK Q K V DO L D k (ix2 q d) = _
      unfold diagDK
      rw [pay21_apply, pay14_apply]
      refine congrArg (0 + ·) (Finset.sum_congr rfl fun p _ => ?_)
      exact congrArg₂ (· * ·) (diag_d Q K V DO L D k p q) (rows_at Q k p d)
    · refine Eq.trans ?_ (upTo_succ _ k.val k.isLt).symm
      rw [upTo_first _ k (vShare_above Q K DO L k q d)]
      show diagDV Q K DO L k (ix2 q d) = _
      unfold diagDV
      rw [pay20_apply, pay14_apply]
      refine congrArg (0 + ·) (Finset.sum_congr rfl fun p _ => ?_)
      exact congrArg₂ (· * ·) (diag_p Q K L k p q) (rows_at DO k p d)
  | succ j ih =>
    obtain ⟨ih1, ih2⟩ := ih (by omega)
    have hlt : k.val + 1 + j < 8 := by omega
    have hk : k < (⟨k.val + 1 + j, hlt⟩ : Fin 8) := by show k.val < k.val + 1 + j; omega
    have hn : k.val + (j + 1) + 1 = (k.val + 1 + j) + 1 := by omega
    have hn' : k.val + j + 1 = k.val + 1 + j := by omega
    rw [hn'] at ih1 ih2
    rw [hn, upTo_succ _ _ hlt, upTo_succ _ _ hlt, ← ih1, ← ih2]
    rw [carry, dif_pos hlt]
    refine ⟨?_, ?_⟩
    · show k0_pay7 _ _ _ _ _ _ _ (ix2 q d) = _
      rw [pay7_apply]
      refine congrArg (_ + ·) (Finset.sum_congr rfl fun p _ => ?_)
      exact congrArg₂ (· * ·) (off_d Q K V DO L D _ k hk p q) (rows_at Q _ p d)
    · show k0_pay6 _ _ _ _ _ (ix2 q d) = _
      rw [pay6_apply]
      refine congrArg (_ + ·) (Finset.sum_congr rfl fun p _ => ?_)
      exact congrArg₂ (· * ·) (off_p Q K L _ k hk p q) (rows_at DO _ p d)

theorem dqRows_sum (r : Fin 8) (p : Fin 512) (d : Fin 128) (n : ℕ) (hn : n ≤ 8) :
    dqRows Q K V DO L D r n (ix2 p d) = upTo (qShare Q K V DO L D r p d) n := by
  induction n with
  | zero => exact (pay2_apply p d).trans (upTo_zero _).symm
  | succ n ih =>
    have hlt : n < 8 := by omega
    rw [upTo_succ _ _ hlt, ← ih (by omega), dqRows, dif_pos hlt, dqStep]
    by_cases h1 : r < (⟨n, hlt⟩ : Fin 8)
    · rw [if_pos h1]
      refine ((congrArg (_ + ·) ?_).trans (add_zero _)).symm
      exact Finset.sum_eq_zero fun q _ => by rw [dT_above Q K V DO L D _ _ h1, zero_mul]
    · rw [if_neg h1]
      by_cases h2 : r = (⟨n, hlt⟩ : Fin 8)
      · subst h2
        rw [if_pos rfl, pay3_apply]
        refine congrArg (_ + ·) (Finset.sum_congr rfl fun q _ => ?_)
        exact congrArg₂ (· * ·) (diag_d Q K V DO L D _ p q) (rows_at K _ q d)
      · rw [if_neg h2, pay8_apply]
        refine congrArg (_ + ·) (Finset.sum_congr rfl fun q _ => ?_)
        refine congrArg₂ (· * ·) (off_d Q K V DO L D r _ ?_ p q) (rows_at K _ q d)
        exact lt_of_le_of_ne (not_lt.mp h1) (Ne.symm h2)

theorem gradQ_apply (i : Fin 4096) (d : Fin 128) :
    gradQ Q K V DO O L (ix2 i d) = ∑ j, dT Q K V DO L (delta DO O) i j * (K (ix2 j d) : EReal) := by
  obtain ⟨r, p, rfl⟩ := at'_surj i
  unfold gradQ
  rw [ofRows_at, dqRows_sum _ _ _ _ _ _ _ _ _ _ le_rfl, upTo_eight]
  exact sum_blocks fun j => dT Q K V DO L (delta DO O) (at' r p) j * (K (ix2 j d) : EReal)

theorem gradK_apply (j : Fin 4096) (d : Fin 128) :
    gradK Q K V DO O L (ix2 j d) = ∑ i, dT Q K V DO L (delta DO O) i j * (Q (ix2 i d) : EReal) := by
  obtain ⟨r, p, rfl⟩ := at'_surj j
  unfold gradK
  rw [ofRows_at, (carry_sum Q K V DO L (delta DO O) r p d (7 - r.val) (by omega)).1,
    show r.val + (7 - r.val) + 1 = 8 by omega, upTo_eight]
  exact sum_blocks fun i => dT Q K V DO L (delta DO O) i (at' r p) * (Q (ix2 i d) : EReal)

theorem gradV_apply (j : Fin 4096) (d : Fin 128) :
    gradV Q K V DO O L (ix2 j d) = ∑ i, pT Q K L i j * (DO (ix2 i d) : EReal) := by
  obtain ⟨r, p, rfl⟩ := at'_surj j
  unfold gradV
  rw [ofRows_at, (carry_sum Q K V DO L (delta DO O) r p d (7 - r.val) (by omega)).2,
    show r.val + (7 - r.val) + 1 = 8 by omega, upTo_eight]
  exact sum_blocks fun i => pT Q K L i (at' r p) * (DO (ix2 i d) : EReal)

theorem delta_apply (i : Fin 4096) (d : Fin 128) :
    delta DO O (ix2 i d) = ∑ e : Fin 128, (DO (ix2 i e) : EReal) * O (ix2 i e) := by
  obtain ⟨r, p, rfl⟩ := at'_surj i
  unfold delta
  rw [ofRows_at, pay1_apply]
  simp only [rows_at]

end Sums

end Cert.KernelIdeal.Flash

end
-- ==== Proof.FlashHead.lean ====
module

public import proofs.«01_k».proof.Proof.FlashSum
public import proofs.«01_k».proof.Proof.FlashReal

/-! # One head's gradients, from the kernel's blocks, on real arguments -/

@[expose] public section

set_option maxRecDepth 16384
set_option maxHeartbeats 4000000

noncomputable section

namespace Cert.KernelIdeal.Flash

open Cert.KernelIdeal.Gen Cert.Soft
open Idealize.ShloMosaic Idealize.ShloMosaic.TcCoe Idealize.ShloMosaic.Tactic

variable (Q K V DO O : (⟨S4096x128, .bf16⟩ : BufTy).Contents (Elt Ideal)) (L : (⟨S1x4096x128, .f32⟩ : BufTy).Contents (Elt Ideal))
variable (q k v g : Fin 4096 → Fin 128 → ℝ)

section
variable (hQ : ∀ i d, Q (ix2 i d) = (q i d : EReal)) (hK : ∀ i d, K (ix2 i d) = (k i d : EReal))
  (hV : ∀ i d, V (ix2 i d) = (v i d : EReal)) (hG : ∀ i d, DO (ix2 i d) = (g i d : EReal))
  (hO : ∀ i d, O (ix2 i d) = ((∑ j, v j d * wR q k i j : ℝ) : EReal))
  (hL : ∀ i d, L (ix3 0 i d) = (Real.log (zR q k i) : EReal))
include hQ hK hL

/-- The weights. -/
theorem pT_real (i j : Fin 4096) : pT Q K L i j = (wR q k i j : EReal) := by
  unfold pT
  split_ifs with h
  · simp only [hQ, hK, hL]
    rw [coe_dot, ← EReal.coe_sub, Ideal.exp_coe]
    exact congrArg _ (wR_lse q k i j h)
  · rw [wR_unseen q k i j h, EReal.coe_zero]

include hV hG hO

/-- The gradients of the scores. -/
theorem dT_real (i j : Fin 4096) : dT Q K V DO L (delta DO O) i j = (dR q k v g i j : EReal) := by
  unfold dT
  rw [pT_real Q K L q k hQ hK hL, delta_apply]
  simp only [hG, hV, hO]
  rw [coe_dot, coe_dot, delta_eq, ← EReal.coe_sub, ← EReal.coe_mul]
  rfl

theorem gradQ_real (i : Fin 4096) (d : Fin 128) : gradQ Q K V DO O L (ix2 i d) = ((∑ j, dR q k v g i j * k j d : ℝ) : EReal) := by
  rw [gradQ_apply]
  simp only [dT_real Q K V DO O L q k v g hQ hK hV hG hO hL, hK]
  exact coe_dot _ _

theorem gradK_real (j : Fin 4096) (d : Fin 128) : gradK Q K V DO O L (ix2 j d) = ((∑ i, dR q k v g i j * q i d : ℝ) : EReal) := by
  rw [gradK_apply]
  simp only [dT_real Q K V DO O L q k v g hQ hK hV hG hO hL, hQ]
  exact coe_dot _ _

theorem gradV_real (j : Fin 4096) (d : Fin 128) : gradV Q K V DO O L (ix2 j d) = ((∑ i, wR q k i j * g i d : ℝ) : EReal) := by
  rw [gradV_apply]
  simp only [pT_real Q K L q k hQ hK hL, hG]
  exact coe_dot _ _

end

end Cert.KernelIdeal.Flash

end
-- ==== Proof.FlashValue.lean ====
module

public import proofs.«01_k».proof.Proof.FlashSaved
public import proofs.«01_k».proof.Proof.FlashHead
public import Idealize.ShloMosaic.Lib.Pipeline.ValueKit

/-! # The kernel's three result arrays are the reference's gradients -/

@[expose] public section

set_option maxRecDepth 16384
set_option maxHeartbeats 1000000

noncomputable section

namespace Cert.KernelIdeal.Flash

open Cert.KernelIdeal.Gen Cert.Soft
open Idealize.ShloMosaic Idealize.ShloMosaic.TcCoe Idealize.ShloMosaic.Tactic
open Idealize.ShloMosaic.Pipeline (Dat)
open Cert.ReferenceIdeal.Read (val_main_v14_0 val_main_v68 val_main_v69 val_main_v70)
open Cert.ReferenceIdeal.Soft (col hd dq_apply dk_apply dv_apply)

variable (m : (ℓ : Loc nD τ sig) → Buf (Elt Ideal) ℓ)

/-- The stretches before the last, then the last. -/
theorem flat_eq : (stretches (F := Ideal)).flatten = (hostOps0 (F := Ideal) ++ hostOps0_1 ++ hostOps0_2 ++ hostOps0_3) ++ hostOps0_4 := by
  simp only [stretches, List.flatten_cons, List.flatten_nil, List.append_nil, List.append_assoc]

theorem V_lse (c : Dev nD) : V m c main_v33 = lseOf (F := Ideal) (val_main_v14_0 (F := Ideal) (m ((c : Thread nD τ).loc main_arg0)) (m ((c : Thread nD τ).loc main_arg1))) := by
  show StableHlo.after (stretches (F := Ideal)).flatten (fun b => m (c, b)) (Proc.devRef .tc main_v33) = _
  rw [flat_eq, after_app, last_lse, first_scores]

theorem V_out (c : Dev nD) : V m c main_v30 = outOf (F := Ideal) (val_main_v14_0 (F := Ideal) (m ((c : Thread nD τ).loc main_arg0)) (m ((c : Thread nD τ).loc main_arg1))) (m ((c : Thread nD τ).loc main_arg2)) := by
  show StableHlo.after (stretches (F := Ideal)).flatten (fun b => m (c, b)) (Proc.devRef .tc main_v30) = _
  rw [flat_eq, after_app, last_out, first_scores, first_arg2]

/-- The block each window stages at head `t`. -/
theorem idx : ∀ t : Fin cfg0.N, win0_0.index t = ![0, t.val] ∧ win0_1.index t = ![0, t.val]
    ∧ win0_2.index t = ![0, t.val] ∧ win0_3.index t = ![0, t.val] ∧ win0_4.index t = ![0, t.val]
    ∧ win0_5.index t = ![t.val, 0, 0] ∧ win0_6.index t = ![0, t.val] ∧ win0_7.index t = ![0, t.val]
    ∧ win0_8.index t = ![0, t.val] :=
  (by decide +kernel : ∀ t : Fin grid0.N, _)

/-- Grid point `t` as a head. -/
def headOf (t : Fin cfg0.N) : Fin 8 := ⟨t.val, by have := t.isLt; have h : cfg0.N = 8 := N_0; omega⟩

theorem blk_q (c : Dev nD) (t : Fin cfg0.N) (i : Fin 4096) (d : Fin 128) :
    iblk m c 0 t (ix2 i d) = V m c main_arg0 (ix2 i (col (headOf t) d)) := by
  blk_point [iblk, idx t]
  rfl

theorem blk_k (c : Dev nD) (t : Fin cfg0.N) (i : Fin 4096) (d : Fin 128) :
    iblk m c 1 t (ix2 i d) = V m c main_arg1 (ix2 i (col (headOf t) d)) := by
  blk_point [iblk, idx t]
  rfl

theorem blk_v (c : Dev nD) (t : Fin cfg0.N) (i : Fin 4096) (d : Fin 128) :
    iblk m c 2 t (ix2 i d) = V m c main_arg2 (ix2 i (col (headOf t) d)) := by
  blk_point [iblk, idx t]
  rfl

theorem blk_g (c : Dev nD) (t : Fin cfg0.N) (i : Fin 4096) (d : Fin 128) :
    iblk m c 3 t (ix2 i d) = V m c main_arg3 (ix2 i (col (headOf t) d)) := by
  blk_point [iblk, idx t]
  rfl

theorem read_o (t : Fin cfg0.N) (W : (⟨S4096x1024, .bf16⟩ : BufTy).Contents (Elt Ideal)) (i : Fin 4096) (d : Fin 128) :
    ((cfg0.win 4).blk t).view.read (Elt Ideal) W (ix2 i d) = W (ix2 i (col (headOf t) d)) := by
  blk_point [idx t]
  rfl

theorem read_l (t : Fin cfg0.N) (W : (⟨S8x4096x128, .f32⟩ : BufTy).Contents (Elt Ideal)) (i : Fin 4096) (d : Fin 128) :
    ((cfg0.win 5).blk t).view.read (Elt Ideal) W (ix3 0 i d) = W (ix3 (headOf t) i d) := by
  blk_point [idx t]
  rfl

theorem blk_o (c : Dev nD) (t : Fin cfg0.N) (i : Fin 4096) (d : Fin 128) :
    iblk m c 4 t (ix2 i d) = V m c main_v30 (ix2 i (col (headOf t) d)) := read_o t (V m c main_v30) i d

theorem blk_l (c : Dev nD) (t : Fin cfg0.N) (i : Fin 4096) (d : Fin 128) :
    iblk m c 5 t (ix3 0 i d) = V m c main_v33 (ix3 (headOf t) i d) := read_l t (V m c main_v33) i d

theorem read_6 (t : Fin cfg0.N) (W : (⟨S4096x1024, .f32⟩ : BufTy).Contents (Elt Ideal)) (i : Fin 4096) (d : Fin 128) :
    ((cfg0.win 6).blk t).view.read (Elt Ideal) W (ix2 i d) = W (ix2 i (col (headOf t) d)) := by
  blk_point [idx t]
  rfl

theorem read_7 (t : Fin cfg0.N) (W : (⟨S4096x1024, .f32⟩ : BufTy).Contents (Elt Ideal)) (i : Fin 4096) (d : Fin 128) :
    ((cfg0.win 7).blk t).view.read (Elt Ideal) W (ix2 i d) = W (ix2 i (col (headOf t) d)) := by
  blk_point [idx t]
  rfl

theorem read_8 (t : Fin cfg0.N) (W : (⟨S4096x1024, .f32⟩ : BufTy).Contents (Elt Ideal)) (i : Fin 4096) (d : Fin 128) :
    ((cfg0.win 8).blk t).view.read (Elt Ideal) W (ix2 i d) = W (ix2 i (col (headOf t) d)) := by
  blk_point [idx t]
  rfl

section Final
variable (c : Dev nD) (a0 a1 a2 a3 : Fin 4096 → Fin 1024 → ℝ)
  (h0 : ∀ i j, m ((c : Thread nD τ).loc main_arg0) (ix2 i j) = (a0 i j : EReal))
  (h1 : ∀ i j, m ((c : Thread nD τ).loc main_arg1) (ix2 i j) = (a1 i j : EReal))
  (h2 : ∀ i j, m ((c : Thread nD τ).loc main_arg2) (ix2 i j) = (a2 i j : EReal))
  (h3 : ∀ i j, m ((c : Thread nD τ).loc main_arg3) (ix2 i j) = (a3 i j : EReal))

include h0 in
theorem real_q (t : Fin cfg0.N) (i : Fin 4096) (d : Fin 128) : iblk m c 0 t (ix2 i d) = (hd a0 (headOf t) i d : EReal) :=
  (blk_q m c t i d).trans ((congrFun (V_main_arg0 m c) _).trans (h0 i (col (headOf t) d)))
include h1 in
theorem real_k (t : Fin cfg0.N) (i : Fin 4096) (d : Fin 128) : iblk m c 1 t (ix2 i d) = (hd a1 (headOf t) i d : EReal) :=
  (blk_k m c t i d).trans ((congrFun (V_main_arg1 m c) _).trans (h1 i (col (headOf t) d)))
include h2 in
theorem real_v (t : Fin cfg0.N) (i : Fin 4096) (d : Fin 128) : iblk m c 2 t (ix2 i d) = (hd a2 (headOf t) i d : EReal) :=
  (blk_v m c t i d).trans ((congrFun (V_main_arg2 m c) _).trans (h2 i (col (headOf t) d)))
include h3 in
theorem real_g (t : Fin cfg0.N) (i : Fin 4096) (d : Fin 128) : iblk m c 3 t (ix2 i d) = (hd a3 (headOf t) i d : EReal) :=
  (blk_g m c t i d).trans ((congrFun (V_main_arg3 m c) _).trans (h3 i (col (headOf t) d)))
include h0 h1 h2 in
theorem real_o (t : Fin cfg0.N) (i : Fin 4096) (d : Fin 128) : iblk m c 4 t (ix2 i d)
    = ((∑ j, hd a2 (headOf t) j d * wR (hd a0 (headOf t)) (hd a1 (headOf t)) i j : ℝ) : EReal) :=
  (blk_o m c t i d).trans ((congrFun (V_out m c) _).trans (out_apply _ _ _ a0 a1 a2 h0 h1 h2 (headOf t) i d))
include h0 h1 in
theorem real_l (t : Fin cfg0.N) (i : Fin 4096) (d : Fin 128) : iblk m c 5 t (ix3 0 i d)
    = (Real.log (zR (hd a0 (headOf t)) (hd a1 (headOf t)) i) : EReal) :=
  (blk_l m c t i d).trans ((congrFun (V_lse m c) _).trans (lse_apply _ _ a0 a1 h0 h1 (headOf t) i d))

include h0 h1 h2 h3

/-- The gradient of the queries, head by head: -/
theorem head6 (t : Fin cfg0.N) (y : S4096x128.Idx) :
    gradQ (iblk m c 0 t) (iblk m c 1 t) (iblk m c 2 t) (iblk m c 3 t) (iblk m c 4 t) (iblk m c 5 t) y
      = ((cfg0.win 6).blk t).view.read (Elt Ideal) (val_main_v68 (F := Ideal) (m ((c : Thread nD τ).loc main_arg0)) (m ((c : Thread nD τ).loc main_arg1)) (m ((c : Thread nD τ).loc main_arg2)) (m ((c : Thread nD τ).loc main_arg3))) y := by
  idx_vars y
  refine Eq.trans ?_ (read_6 t _ y0 y1).symm
  refine Eq.trans ?_ (dq_apply _ _ _ _ a0 a1 a2 a3 h0 h1 h2 h3 y0 (headOf t) y1).symm
  exact gradQ_real _ _ _ _ _ _ (hd a0 (headOf t)) (hd a1 (headOf t)) (hd a2 (headOf t)) (hd a3 (headOf t)) (real_q m c a0 h0 t) (real_k m c a1 h1 t) (real_v m c a2 h2 t)
    (real_g m c a3 h3 t) (real_o m c a0 a1 a2 h0 h1 h2 t) (real_l m c a0 a1 h0 h1 t) y0 y1

/-- and over the whole array. -/
theorem final6 : (dats m 0 c).arrAt 6 (cfgs 0).N
    = val_main_v68 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [after0_6]
  exact head6 m c a0 a1 a2 a3 h0 h1 h2 h3 t y

/-- The gradient of the keys, head by head: -/
theorem head7 (t : Fin cfg0.N) (y : S4096x128.Idx) :
    gradK (iblk m c 0 t) (iblk m c 1 t) (iblk m c 2 t) (iblk m c 3 t) (iblk m c 4 t) (iblk m c 5 t) y
      = ((cfg0.win 7).blk t).view.read (Elt Ideal) (val_main_v69 (F := Ideal) (m ((c : Thread nD τ).loc main_arg0)) (m ((c : Thread nD τ).loc main_arg1)) (m ((c : Thread nD τ).loc main_arg2)) (m ((c : Thread nD τ).loc main_arg3))) y := by
  idx_vars y
  refine Eq.trans ?_ (read_7 t _ y0 y1).symm
  refine Eq.trans ?_ (dk_apply _ _ _ _ a0 a1 a2 a3 h0 h1 h2 h3 y0 (headOf t) y1).symm
  exact gradK_real _ _ _ _ _ _ (hd a0 (headOf t)) (hd a1 (headOf t)) (hd a2 (headOf t)) (hd a3 (headOf t)) (real_q m c a0 h0 t) (real_k m c a1 h1 t) (real_v m c a2 h2 t)
    (real_g m c a3 h3 t) (real_o m c a0 a1 a2 h0 h1 h2 t) (real_l m c a0 a1 h0 h1 t) y0 y1

/-- and over the whole array. -/
theorem final7 : (dats m 0 c).arrAt 7 (cfgs 0).N
    = val_main_v69 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  rw [after0_7]
  exact head7 m c a0 a1 a2 a3 h0 h1 h2 h3 t y

/-- The gradient of the values, head by head: -/
theorem head8 (t : Fin cfg0.N) (y : S4096x128.Idx) :
    gradV (iblk m c 0 t) (iblk m c 1 t) (iblk m c 2 t) (iblk m c 3 t) (iblk m c 4 t) (iblk m c 5 t) y
      = ((cfg0.win 8).blk t).view.read (Elt Ideal) (val_main_v70 (F := Ideal) (m ((c : Thread nD τ).loc main_arg0)) (m ((c : Thread nD τ).loc main_arg1)) (m ((c : Thread nD τ).loc main_arg3))) y := by
  idx_vars y
  refine Eq.trans ?_ (read_8 t _ y0 y1).symm
  refine Eq.trans ?_ (dv_apply _ _ _ a0 a1 a3 h0 h1 h3 y0 (headOf t) y1).symm
  exact gradV_real _ _ _ _ _ _ (hd a0 (headOf t)) (hd a1 (headOf t)) (hd a2 (headOf t)) (hd a3 (headOf t)) (real_q m c a0 h0 t) (real_k m c a1 h1 t) (real_v m c a2 h2 t)
    (real_g m c a3 h3 t) (real_o m c a0 a1 a2 h0 h1 h2 t) (real_l m c a0 a1 h0 h1 t) y0 y1

/-- and over the whole array. -/
theorem final8 : (dats m 0 c).arrAt 8 (cfgs 0).N
    = val_main_v70 (F := Ideal) (m ((c : Thread nD τ).loc main_arg0)) (m ((c : Thread nD τ).loc main_arg1)) (m ((c : Thread nD τ).loc main_arg3)) := by
  refine (dats m 0 c).arrAt_eq_of_covers 8 _ (by decide +kernel) fun t _ y => ?_
  rw [after0_8]
  exact head8 m c a0 a1 a2 a3 h0 h1 h2 h3 t y

end Final

end Cert.KernelIdeal.Flash

end
-- ==== Proof.FlashPre.lean ====
module

public import proofs.«01_k».proof.Proof.Gen.Pre_finite
public import Idealize.ShloMosaic.Lib.ReduceAll
public import Idealize.ShloMosaic.Lib.Pointwise

/-! # The precondition says that every argument entry is a real number -/

@[expose] public section

set_option maxRecDepth 16384
set_option maxHeartbeats 1000000

noncomputable section

namespace Cert.Soft

open Cert.Pre_finite
open Idealize.ShloMosaic Idealize.ShloMosaic.Tactic

theorem word_top : Ideal.ofBits FTy.f32 0x7F800000#32 = ⊤ := by simp [Ideal.ofBits, Ideal.ieee]

theorem and_one : ∀ a b : BitVec 1, IntOp.andi a b = 1#1 → a = 1#1 ∧ b = 1#1 := by decide

/-- Below infinity in absolute value is real. -/
theorem real_of_abs (x : EReal) (h : Ideal.cmp .olt (max x (-x)) (⊤ : EReal) = 1#1) : ∃ r : ℝ, x = (r : EReal) := by
  induction x with
  | bot => simp [Ideal.cmp] at h
  | top => simp [Ideal.cmp] at h
  | coe r => exact ⟨r, rfl⟩

instance : Subsingleton S_.Idx := ⟨fun a b => funext fun k => k.elim0⟩

section
variable [Cert.Pre_finite.Facts]
open Cert.Pre_finite.Facts

/-- One argument's part of the precondition. -/
theorem real_entries (x : FVec Ideal S4096x1024 .bf16) (j : S_.Idx)
    (h : Host.reduce IntOp.andi (cmpf .olt (Host.absf (extf .f32 x bitsLt_bf16_f32)) (broadcastInDim S4096x1024 ![] bcast_S_S4096x1024 (constant S_ .f32 0x7F800000#32)))
      (constantI S_ 1 1#1) reducesTo_S4096x1024_S_d0_1 h_S_ j = 1#1) (i : Fin 4096) (c : Fin 1024) : ∃ r : ℝ, x (ix2 i c) = (r : EReal) := by
  have e := Host.reduce_andi_all _ _ _ _ j h (ix2 i c)
  revert e
  pointwise []
  rw [word_top]
  intro e
  exact real_of_abs _ e

/-- What the precondition says of the four arguments. -/
theorem real_args (x0 x1 x2 x3 : FVec Ideal S4096x1024 .bf16) (h : Cert.Pre_finite.fn (F := Ideal) x0 x1 x2 x3 = fun _ => 1#1) :
    (∀ i c, ∃ r : ℝ, x0 (ix2 i c) = (r : EReal)) ∧ (∀ i c, ∃ r : ℝ, x1 (ix2 i c) = (r : EReal))
    ∧ (∀ i c, ∃ r : ℝ, x2 (ix2 i c) = (r : EReal)) ∧ (∀ i c, ∃ r : ℝ, x3 (ix2 i c) = (r : EReal)) := by
  let j : S_.Idx := fun k => k.elim0
  have h := congrFun h j
  dsimp only [Cert.Pre_finite.fn, Cert.Pre_finite.fn_part1] at h
  obtain ⟨h, e3⟩ := and_one _ _ h
  obtain ⟨h, e2⟩ := and_one _ _ h
  obtain ⟨e0, e1⟩ := and_one _ _ h
  exact ⟨real_entries x0 j e0, real_entries x1 j e1, real_entries x2 j e2, real_entries x3 j e3⟩

end

end Cert.Soft

end
-- ==== Proof.FlashClaim.lean ====
module

public import proofs.«01_k».proof.Defs
public import proofs.«01_k».proof.Proof.FlashValue
public import proofs.«01_k».proof.Proof.FlashPre
public import proofs.«01_k».proof.Proof.FlashBits
public import proofs.«01_k».proof.Proof.Gen.ReferenceIdeal.Run
public import Idealize.ShloMosaic.Lib.Claim
public import Idealize.ShloMosaic.Adequacy
public import Idealize.ShloMosaic.Init

/-! # The claims about the gradient of the attention -/

@[expose] public section

set_option maxRecDepth 16384

noncomputable section

namespace Cert.KernelIdeal.Flash

open Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The run leaves each result window's array in the result's buffer, and the arguments as they were. -/
theorem run_results : θ_run defs (onTc (τ := τ) (main (F := F))) ⟨m, fun _ => 0, ρ⟩ (fun r => ∀ c : Dev nD,
      r.2.mem ((c.tc : Thread nD τ).loc main_v34_0) = (dats m 0 c).arrAt 6 (cfgs 0).N
      ∧ r.2.mem ((c.tc : Thread nD τ).loc main_v34_1) = (dats m 0 c).arrAt 7 (cfgs 0).N
      ∧ r.2.mem ((c.tc : Thread nD τ).loc main_v34_2) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Flash

namespace Cert.Proof

open Idealize.ShloMosaic Idealize.SL.Sem Idealize.ShloMosaic.Tactic

/-- The kernel's run, at arguments whose entries are real: its results are the reference's terms. -/
theorem run_flash (m : (ℓ : Loc Cert.KernelIdeal.nD Cert.KernelIdeal.τ Cert.KernelIdeal.sig) → Buf (Elt Ideal) ℓ) (ρ : Dev Cert.KernelIdeal.nD → PrngReg) (h : Cert.Pre_KernelIdeal_finite m) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v34_0) = Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v34_1) = Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v34_2) = Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) := by
  have e0 : ∀ c : Dev Cert.KernelIdeal.nD, (∀ i j, ∃ x : ℝ, m ((c.tc : Thread Cert.KernelIdeal.nD Cert.KernelIdeal.τ).loc Cert.KernelIdeal.main_arg0) (ix2 i j) = (x : EReal)) ∧ (∀ i j, ∃ x : ℝ, m ((c.tc : Thread Cert.KernelIdeal.nD Cert.KernelIdeal.τ).loc Cert.KernelIdeal.main_arg1) (ix2 i j) = (x : EReal))
      ∧ (∀ i j, ∃ x : ℝ, m ((c.tc : Thread Cert.KernelIdeal.nD Cert.KernelIdeal.τ).loc Cert.KernelIdeal.main_arg2) (ix2 i j) = (x : EReal)) ∧ (∀ i j, ∃ x : ℝ, m ((c.tc : Thread Cert.KernelIdeal.nD Cert.KernelIdeal.τ).loc Cert.KernelIdeal.main_arg3) (ix2 i j) = (x : EReal)) :=
    fun c => Cert.Soft.real_args _ _ _ _ (h c)
  choose a0 h0 using fun c => (e0 c).1
  choose a1 h1 using fun c => (e0 c).2.1
  choose a2 h2 using fun c => (e0 c).2.2.1
  choose a3 h3 using fun c => (e0 c).2.2.2
  refine (θ_run _ _ _).mono (fun r h c => ?_) (Cert.KernelIdeal.Flash.run_results (F := Ideal) m ρ)
  obtain ⟨f6, f7, f8, hargs⟩ := h c
  exact ⟨f6.trans (Cert.KernelIdeal.Flash.final6 m c (a0 c) (a1 c) (a2 c) (a3 c) (h0 c) (h1 c) (h2 c) (h3 c)),
    f7.trans (Cert.KernelIdeal.Flash.final7 m c (a0 c) (a1 c) (a2 c) (a3 c) (h0 c) (h1 c) (h2 c) (h3 c)),
    f8.trans (Cert.KernelIdeal.Flash.final8 m c (a0 c) (a1 c) (a2 c) (a3 c) (h0 c) (h1 c) (h2 c) (h3 c)), hargs⟩

/-- The reference's run, its results named by the stages. -/
theorem run_attention (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v68) = Cert.ReferenceIdeal.Read.val_main_v68 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v69) = Cert.ReferenceIdeal.Read.val_main_v69 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v70) = Cert.ReferenceIdeal.Read.val_main_v70 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run _ _ _).mono (fun r h c => by
    obtain ⟨e0, e1, e2, hargs⟩ := h c
    exact ⟨e0.trans (Cert.ReferenceIdeal.Read.val_main_v68_eq m c), e1.trans (Cert.ReferenceIdeal.Read.val_main_v69_eq m c),
      e2.trans (Cert.ReferenceIdeal.Read.val_main_v70_eq m c), hargs⟩) (Cert.ReferenceIdeal.Value.run (F := Ideal) m ρ)

/-- The gradient of the attention: the kernel's idealisation computes what the plain gradient does. -/
theorem algebraic_attention : Cert.algebraic_KernelIdeal_ReferenceIdeal_pre_finite := by
  intro m g m' g' hpre hagree
  refine ⟨fun c => Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    run_flash m g hpre, (θ_run _ _ _).mono (fun r h c => ?_) (run_attention m' g')⟩
  obtain ⟨h0, h1, h2, hargs⟩ := h c
  obtain ⟨e0, e1, e2, e3⟩ := hagree c
  rw [e0, e1, e2, e3] at h0 h1
  rw [e0, e1, e3] at h2
  exact ⟨h0, h1, h2, hargs⟩

/-- The reference ends with its arguments unchanged; it declares no semaphore. -/
theorem frame_attention (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) ∧ r.2.sem = fun _ => 0) :=
  (θ_run Cert.ReferenceIdeal.defs _ _).mono
    (fun r h => ⟨fun c => (h c).2.2.2, Idealize.ShloMosaic.sem_eq_zero_of_no_sems (by decide) r.2⟩) (run_attention m ρ)

end Cert.Proof

end
-- ==== Proof.Product3.lean ====
/- The gradient of a feed-forward weight, one chip's columns at a grid point: each entry is the sum over the 4096 rows. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Product

open Idealize.ShloMosaic Idealize.ShloMosaic.TcCoe Idealize.SL.Sem
open Cert.Kernel3Ideal.Gen Cert.Reference3Ideal.Read

/-- The block each window stages at grid point `t`. -/
theorem idx : ∀ t : Fin cfg0.N, win0_0.index t = ![t.val, 0, 0] ∧ win0_1.index t = ![0, 0] ∧ win0_2.index t = ![t.val, 0, 0] :=
  (by decide +kernel : ∀ t : Fin grid0.N, _)

/-- The array the launch leaves is the reference's product. -/
theorem final (m : (ℓ : Loc Cert.Kernel3Ideal.nD Cert.Kernel3Ideal.τ Cert.Kernel3Ideal.sig) → Buf (Elt Ideal) ℓ) (c : Dev nD) : (dats m 0 c).arrAt 2 (cfgs 0).N
    = Cert.Reference3Ideal.Read.val_main_v6 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) := by
  refine (dats m 0 c).arrAt_eq_of_covers 2 _ (by decide +kernel) fun t _ y => ?_
  blk_simp
  rw [after0_2]
  frame_out
  pointwise [k0_pay1, val_main_v6, val_main_v1, val_main_v5, val_main_v4]
  blk_point [iblk, V, idx t]

end Cert.Kernel3Ideal.Product

namespace Cert.Product3

open Idealize.ShloMosaic Idealize.ShloMosaic.TcCoe Idealize.SL.Sem

/-- The kernel's run ends with the reference's product in its result and the arguments as they were. -/
theorem run_kernel (m : (ℓ : Loc Cert.Kernel3Ideal.nD Cert.Kernel3Ideal.τ Cert.Kernel3Ideal.sig) → Buf (Elt Ideal) ℓ) (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩ fun r => ∀ c : Dev Cert.Kernel3Ideal.nD,
      r.2.mem ((c.tc : Thread Cert.Kernel3Ideal.nD Cert.Kernel3Ideal.τ).loc Cert.Kernel3Ideal.main_v0) = Cert.Reference3Ideal.Read.val_main_v6 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) := by
  run_from Cert.Kernel3Ideal.Gen.run_main m ρ
  exact Cert.Kernel3Ideal.Product.final m c

/-- The reference's run. -/
theorem run_reference (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v6) = Cert.Reference3Ideal.Read.val_main_v6 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1) :=
  Cert.Reference3Ideal.Value.run m ρ

/-- The kernel's idealisation computes what the reference does. -/
theorem algebraic : Cert.algebraic_Kernel3Ideal_Reference3Ideal := by
  intro m g m' g' _ hagree
  refine ⟨fun c => Cert.Reference3Ideal.Read.val_main_v6 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference3Ideal := by
  intro m ρ _
  exact (θ_run Cert.Reference3Ideal.defs _ _).mono
    (fun r h => ⟨fun c => (h c).2, Idealize.ShloMosaic.sem_eq_zero_of_no_sems (by decide) r.2⟩) (run_reference m ρ)

end Cert.Product3

end
-- ==== Proof.Product4.lean ====
/- The gradient of the input projection with respect to its rows, 512 rows at a grid point. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Product

open Idealize.ShloMosaic Idealize.ShloMosaic.TcCoe Idealize.SL.Sem
open Cert.Kernel4Ideal.Gen Cert.Reference4Ideal.Read

/-- The block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The array the launch leaves is the reference's product. -/
theorem final (m : (ℓ : Loc Cert.Kernel4Ideal.nD Cert.Kernel4Ideal.τ Cert.Kernel4Ideal.sig) → Buf (Elt Ideal) ℓ) (c : Dev nD) : (dats m 0 c).arrAt 2 (cfgs 0).N
    = Cert.Reference4Ideal.Read.val_main_v5 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) := by
  refine (dats m 0 c).arrAt_eq_of_covers 2 _ (by decide +kernel) fun t _ y => ?_
  blk_simp
  rw [after0_2]
  frame_out
  pointwise [k0_pay1, val_main_v5, val_main_v2, val_main_v1, val_main_v4]
  blk_point [iblk, V, idx t]

end Cert.Kernel4Ideal.Product

namespace Cert.Product4

open Idealize.ShloMosaic Idealize.ShloMosaic.TcCoe Idealize.SL.Sem

/-- The kernel's run ends with the reference's product in its result and the arguments as they were. -/
theorem run_kernel (m : (ℓ : Loc Cert.Kernel4Ideal.nD Cert.Kernel4Ideal.τ Cert.Kernel4Ideal.sig) → Buf (Elt Ideal) ℓ) (ρ : Dev Cert.Kernel4Ideal.nD → PrngReg) :
    θ_run (Cert.Kernel4Ideal.defs (F := Ideal)) (onTc (τ := Cert.Kernel4Ideal.τ) (Cert.Kernel4Ideal.main (F := Ideal))) ⟨m, fun _ => 0, ρ⟩ fun r => ∀ c : Dev Cert.Kernel4Ideal.nD,
      r.2.mem ((c.tc : Thread Cert.Kernel4Ideal.nD Cert.Kernel4Ideal.τ).loc Cert.Kernel4Ideal.main_v0) = Cert.Reference4Ideal.Read.val_main_v5 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1) := by
  run_from Cert.Kernel4Ideal.Gen.run_main m ρ
  exact Cert.Kernel4Ideal.Product.final m c

/-- The reference's run. -/
theorem run_reference (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r => ∀ c : Dev Cert.Reference4Ideal.nD,
      r.2.mem ((c.tc : Thread Cert.Reference4Ideal.nD Cert.Reference4Ideal.τ).loc Cert.Reference4Ideal.main_v5) = Cert.Reference4Ideal.Read.val_main_v5 (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1) :=
  Cert.Reference4Ideal.Value.run m ρ

/-- The kernel's idealisation computes what the reference does. -/
theorem algebraic : Cert.algebraic_Kernel4Ideal_Reference4Ideal := by
  intro m g m' g' _ hagree
  refine ⟨fun c => Cert.Reference4Ideal.Read.val_main_v5 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference4Ideal := by
  intro m ρ _
  exact (θ_run Cert.Reference4Ideal.defs _ _).mono
    (fun r h => ⟨fun c => (h c).2, Idealize.ShloMosaic.sem_eq_zero_of_no_sems (by decide) r.2⟩) (run_reference m ρ)

end Cert.Product4

end
-- ==== Proof.Product5.lean ====
/- The gradient of the input projection with respect to its weight, 768 of the 3840 columns at a grid point. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Product

open Idealize.ShloMosaic Idealize.ShloMosaic.TcCoe Idealize.SL.Sem
open Cert.Kernel5Ideal.Gen Cert.Reference5Ideal.Read

/-- The block each window stages at grid point `t`. -/
theorem idx : ∀ t : Fin cfg0.N, win0_0.index t = ![0, t.val] ∧ win0_1.index t = ![0, 0] ∧ win0_2.index t = ![t.val, 0] :=
  (by decide +kernel : ∀ t : Fin grid0.N, _)

/-- The array the launch leaves is the reference's product. -/
theorem final (m : (ℓ : Loc Cert.Kernel5Ideal.nD Cert.Kernel5Ideal.τ Cert.Kernel5Ideal.sig) → Buf (Elt Ideal) ℓ) (c : Dev nD) : (dats m 0 c).arrAt 2 (cfgs 0).N
    = Cert.Reference5Ideal.Read.val_main_v7 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) := by
  refine (dats m 0 c).arrAt_eq_of_covers 2 _ (by decide +kernel) fun t _ y => ?_
  blk_simp
  rw [after0_2]
  frame_out
  pointwise [k0_pay1, val_main_v7, val_main_v6, val_main_v5, val_main_v1, val_main_v4]
  blk_point [iblk, V, idx t]

end Cert.Kernel5Ideal.Product

namespace Cert.Product5

open Idealize.ShloMosaic Idealize.ShloMosaic.TcCoe Idealize.SL.Sem

/-- The kernel's run ends with the reference's product in its result and the arguments as they were. -/
theorem run_kernel (m : (ℓ : Loc Cert.Kernel5Ideal.nD Cert.Kernel5Ideal.τ Cert.Kernel5Ideal.sig) → Buf (Elt Ideal) ℓ) (ρ : Dev Cert.Kernel5Ideal.nD → PrngReg) :
    θ_run (Cert.Kernel5Ideal.defs (F := Ideal)) (onTc (τ := Cert.Kernel5Ideal.τ) (Cert.Kernel5Ideal.main (F := Ideal))) ⟨m, fun _ => 0, ρ⟩ fun r => ∀ c : Dev Cert.Kernel5Ideal.nD,
      r.2.mem ((c.tc : Thread Cert.Kernel5Ideal.nD Cert.Kernel5Ideal.τ).loc Cert.Kernel5Ideal.main_v0) = Cert.Reference5Ideal.Read.val_main_v7 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1) := by
  run_from Cert.Kernel5Ideal.Gen.run_main m ρ
  exact Cert.Kernel5Ideal.Product.final m c

/-- The reference's run. -/
theorem run_reference (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ fun r => ∀ c : Dev Cert.Reference5Ideal.nD,
      r.2.mem ((c.tc : Thread Cert.Reference5Ideal.nD Cert.Reference5Ideal.τ).loc Cert.Reference5Ideal.main_v7) = Cert.Reference5Ideal.Read.val_main_v7 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1) :=
  Cert.Reference5Ideal.Value.run m ρ

/-- The kernel's idealisation computes what the reference does. -/
theorem algebraic : Cert.algebraic_Kernel5Ideal_Reference5Ideal := by
  intro m g m' g' _ hagree
  refine ⟨fun c => Cert.Reference5Ideal.Read.val_main_v7 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference5Ideal := by
  intro m ρ _
  exact (θ_run Cert.Reference5Ideal.defs _ _).mono
    (fun r h => ⟨fun c => (h c).2, Idealize.ShloMosaic.sem_eq_zero_of_no_sems (by decide) r.2⟩) (run_reference m ρ)

end Cert.Product5

end
-- ==== Proof.Product6.lean ====
/- The input projection, 512 rows at a grid point. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Product

open Idealize.ShloMosaic Idealize.ShloMosaic.TcCoe Idealize.SL.Sem
open Cert.Kernel6Ideal.Gen Cert.Reference6Ideal.Read

/-- The block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The array the launch leaves is the reference's product. -/
theorem final (m : (ℓ : Loc Cert.Kernel6Ideal.nD Cert.Kernel6Ideal.τ Cert.Kernel6Ideal.sig) → Buf (Elt Ideal) ℓ) (c : Dev nD) : (dats m 0 c).arrAt 2 (cfgs 0).N
    = Cert.Reference6Ideal.Read.val_main_v4 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) := by
  refine (dats m 0 c).arrAt_eq_of_covers 2 _ (by decide +kernel) fun t _ y => ?_
  blk_simp
  rw [after0_2]
  frame_out
  pointwise [k0_pay1, val_main_v4, val_main_v3, val_main_v2, val_main_v1, val_main_v0]
  blk_point [iblk, V, idx t]

end Cert.Kernel6Ideal.Product

namespace Cert.Product6

open Idealize.ShloMosaic Idealize.ShloMosaic.TcCoe Idealize.SL.Sem

/-- The kernel's run ends with the reference's product in its result and the arguments as they were. -/
theorem run_kernel (m : (ℓ : Loc Cert.Kernel6Ideal.nD Cert.Kernel6Ideal.τ Cert.Kernel6Ideal.sig) → Buf (Elt Ideal) ℓ) (ρ : Dev Cert.Kernel6Ideal.nD → PrngReg) :
    θ_run (Cert.Kernel6Ideal.defs (F := Ideal)) (onTc (τ := Cert.Kernel6Ideal.τ) (Cert.Kernel6Ideal.main (F := Ideal))) ⟨m, fun _ => 0, ρ⟩ fun r => ∀ c : Dev Cert.Kernel6Ideal.nD,
      r.2.mem ((c.tc : Thread Cert.Kernel6Ideal.nD Cert.Kernel6Ideal.τ).loc Cert.Kernel6Ideal.main_v0) = Cert.Reference6Ideal.Read.val_main_v4 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
      ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1) := by
  run_from Cert.Kernel6Ideal.Gen.run_main m ρ
  exact Cert.Kernel6Ideal.Product.final m c

/-- The reference's run. -/
theorem run_reference (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ fun r => ∀ c : Dev Cert.Reference6Ideal.nD,
      r.2.mem ((c.tc : Thread Cert.Reference6Ideal.nD Cert.Reference6Ideal.τ).loc Cert.Reference6Ideal.main_v4) = Cert.Reference6Ideal.Read.val_main_v4 (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1) :=
  Cert.Reference6Ideal.Value.run m ρ

/-- The kernel's idealisation computes what the reference does. -/
theorem algebraic : Cert.algebraic_Kernel6Ideal_Reference6Ideal := by
  intro m g m' g' _ hagree
  refine ⟨fun c => Cert.Reference6Ideal.Read.val_main_v4 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference6Ideal := by
  intro m ρ _
  exact (θ_run Cert.Reference6Ideal.defs _ _).mono
    (fun r h => ⟨fun c => (h c).2, Idealize.ShloMosaic.sem_eq_zero_of_no_sems (by decide) r.2⟩) (run_reference m ρ)

end Cert.Product6

end
-- ==== Proof.Product7.lean ====
/- The gradient of the mixer's output projection with respect to its rows, 512 rows at a grid point. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.Product

open Idealize.ShloMosaic Idealize.ShloMosaic.TcCoe Idealize.SL.Sem
open Cert.Kernel7Ideal.Gen Cert.Reference7Ideal.Read

/-- The block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The array the launch leaves is the reference's product. -/
theorem final (m : (ℓ : Loc Cert.Kernel7Ideal.nD Cert.Kernel7Ideal.τ Cert.Kernel7Ideal.sig) → Buf (Elt Ideal) ℓ) (c : Dev nD) : (dats m 0 c).arrAt 2 (cfgs 0).N
    = Cert.Reference7Ideal.Read.val_main_v4 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) := by
  refine (dats m 0 c).arrAt_eq_of_covers 2 _ (by decide +kernel) fun t _ y => ?_
  blk_simp
  rw [after0_2]
  frame_out
  pointwise [k0_pay1, val_main_v4, val_main_v3, val_main_v1]
  blk_point [iblk, V, idx t]

end Cert.Kernel7Ideal.Product

namespace Cert.Product7

open Idealize.ShloMosaic Idealize.ShloMosaic.TcCoe Idealize.SL.Sem

/-- The kernel's run ends with the reference's product in its result and the arguments as they were. -/
theorem run_kernel (m : (ℓ : Loc Cert.Kernel7Ideal.nD Cert.Kernel7Ideal.τ Cert.Kernel7Ideal.sig) → Buf (Elt Ideal) ℓ) (ρ : Dev Cert.Kernel7Ideal.nD → PrngReg) :
    θ_run (Cert.Kernel7Ideal.defs (F := Ideal)) (onTc (τ := Cert.Kernel7Ideal.τ) (Cert.Kernel7Ideal.main (F := Ideal))) ⟨m, fun _ => 0, ρ⟩ fun r => ∀ c : Dev Cert.Kernel7Ideal.nD,
      r.2.mem ((c.tc : Thread Cert.Kernel7Ideal.nD Cert.Kernel7Ideal.τ).loc Cert.Kernel7Ideal.main_v0) = Cert.Reference7Ideal.Read.val_main_v4 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
      ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1) := by
  run_from Cert.Kernel7Ideal.Gen.run_main m ρ
  exact Cert.Kernel7Ideal.Product.final m c

/-- The reference's run. -/
theorem run_reference (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ fun r => ∀ c : Dev Cert.Reference7Ideal.nD,
      r.2.mem ((c.tc : Thread Cert.Reference7Ideal.nD Cert.Reference7Ideal.τ).loc Cert.Reference7Ideal.main_v4) = Cert.Reference7Ideal.Read.val_main_v4 (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1) :=
  Cert.Reference7Ideal.Value.run m ρ

/-- The kernel's idealisation computes what the reference does. -/
theorem algebraic : Cert.algebraic_Kernel7Ideal_Reference7Ideal := by
  intro m g m' g' _ hagree
  refine ⟨fun c => Cert.Reference7Ideal.Read.val_main_v4 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference7Ideal := by
  intro m ρ _
  exact (θ_run Cert.Reference7Ideal.defs _ _).mono
    (fun r h => ⟨fun c => (h c).2, Idealize.ShloMosaic.sem_eq_zero_of_no_sems (by decide) r.2⟩) (run_reference m ρ)

end Cert.Product7

end
-- ==== Proof.Product8.lean ====
/- The mixer's output projection added to the residual, 512 rows at a grid point. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.Product

open Idealize.ShloMosaic Idealize.ShloMosaic.TcCoe Idealize.SL.Sem
open Cert.Kernel8Ideal.Gen Cert.Reference8Ideal.Read

/-- The block each window stages at grid point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The array the launch leaves is the reference's product. -/
theorem final (m : (ℓ : Loc Cert.Kernel8Ideal.nD Cert.Kernel8Ideal.τ Cert.Kernel8Ideal.sig) → Buf (Elt Ideal) ℓ) (c : Dev nD) : (dats m 0 c).arrAt 3 (cfgs 0).N
    = Cert.Reference8Ideal.Read.val_main_v3 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) := by
  refine (dats m 0 c).arrAt_eq_of_covers 3 _ (by decide +kernel) fun t _ y => ?_
  blk_simp
  rw [after0_3]
  frame_out
  pointwise [k0_pay1, val_main_v3, val_main_v2, val_main_v1, val_main_v0]
  blk_point [iblk, V, idx t]

end Cert.Kernel8Ideal.Product

namespace Cert.Product8

open Idealize.ShloMosaic Idealize.ShloMosaic.TcCoe Idealize.SL.Sem

/-- The kernel's run ends with the reference's product in its result and the arguments as they were. -/
theorem run_kernel (m : (ℓ : Loc Cert.Kernel8Ideal.nD Cert.Kernel8Ideal.τ Cert.Kernel8Ideal.sig) → Buf (Elt Ideal) ℓ) (ρ : Dev Cert.Kernel8Ideal.nD → PrngReg) :
    θ_run (Cert.Kernel8Ideal.defs (F := Ideal)) (onTc (τ := Cert.Kernel8Ideal.τ) (Cert.Kernel8Ideal.main (F := Ideal))) ⟨m, fun _ => 0, ρ⟩ fun r => ∀ c : Dev Cert.Kernel8Ideal.nD,
      r.2.mem ((c.tc : Thread Cert.Kernel8Ideal.nD Cert.Kernel8Ideal.τ).loc Cert.Kernel8Ideal.main_v0) = Cert.Reference8Ideal.Read.val_main_v3 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))
      ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2) := by
  run_from Cert.Kernel8Ideal.Gen.run_main m ρ
  exact Cert.Kernel8Ideal.Product.final m c

/-- The reference's run. -/
theorem run_reference (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ fun r => ∀ c : Dev Cert.Reference8Ideal.nD,
      r.2.mem ((c.tc : Thread Cert.Reference8Ideal.nD Cert.Reference8Ideal.τ).loc Cert.Reference8Ideal.main_v3) = Cert.Reference8Ideal.Read.val_main_v3 (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))
      ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2) :=
  Cert.Reference8Ideal.Value.run m ρ

/-- The kernel's idealisation computes what the reference does. -/
theorem algebraic : Cert.algebraic_Kernel8Ideal_Reference8Ideal := by
  intro m g m' g' _ hagree
  refine ⟨fun c => Cert.Reference8Ideal.Read.val_main_v3 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    run_kernel m g, (θ_run _ _ _).mono (fun r h c => ?_) (run_reference m' g')⟩
  obtain ⟨h0, hargs⟩ := h c
  obtain ⟨e0, e1, e2⟩ := hagree c
  rw [e0, e1, e2] at h0
  exact ⟨h0, hargs⟩

/-- The reference ends with its arguments unchanged; it declares no semaphore. -/
theorem frame_reference : Cert.quiescent_Reference8Ideal := by
  intro m ρ _
  exact (θ_run Cert.Reference8Ideal.defs _ _).mono
    (fun r h => ⟨fun c => (h c).2, Idealize.ShloMosaic.sem_eq_zero_of_no_sems (by decide) r.2⟩) (run_reference m ρ)

end Cert.Product8

end
-- ==== Proof.Product10.lean ====
/- The gradient of the mixer's output projection with respect to its weight: 512 of the 1024 rows of the weight at a
   time, the 4096 rows of the batch added up in four blocks of 1024. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel10Ideal.Product

open Idealize.ShloMosaic Idealize.ShloMosaic.TcCoe Idealize.SL.Sem
open Cert.Kernel10Ideal.Gen Cert.Reference10Ideal.Read

/-- The block each window stages at grid point `t`. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc Cert.Kernel10Ideal.nD Cert.Kernel10Ideal.τ Cert.Kernel10Ideal.sig) → Buf (Elt Ideal) ℓ) (c : Dev nD)

/-- The product of one block of rows, at one entry. -/
def part (y : Vec Ideal S1024x512 .bf16) (dx : Vec Ideal S1024x1024 .f32) (i : S512x1024.Idx) : EReal :=
  ∑ d : Fin 1024, y (ix2 d (i 0)) * dx (ix2 d (i 1))

theorem pay1_apply (y : Vec Ideal S1024x512 .bf16) (dx : Vec Ideal S1024x1024 .f32) (i : S512x1024.Idx) :
    k0_pay1 (F := Ideal) y dx i = part y dx i := by
  unfold part
  obtain ⟨r, k, rfl⟩ : ∃ (r : Fin 512) (k : Fin 1024), i = ix2 r k := ⟨i 0, i 1, eq_ix2 i⟩
  pointwise [k0_pay1]

theorem pay2_apply (y : Vec Ideal S1024x512 .bf16) (dx : Vec Ideal S1024x1024 .f32) (i : S512x1024.Idx) :
    k0_pay2 (F := Ideal) y dx i = 0 + part y dx i := by
  rw [zero_add, ← pay1_apply]
  pointwise [k0_pay2]

theorem pay3_apply (y : Vec Ideal S1024x512 .bf16) (dx : Vec Ideal S1024x1024 .f32) (a : Vec Ideal S512x1024 .f32) (i : S512x1024.Idx) :
    k0_pay3 (F := Ideal) y dx a i = a i + part y dx i := by
  rw [← pay1_apply]
  pointwise [k0_pay3]

/-- The running sum is set at the first of four blocks … -/
theorem sum_start (t : Fin cfg0.N) (h : t.val % 4 = 0) (i : S512x1024.Idx) :
    (outsAt0 m c t.val t.isLt).2 i = 0 + part (iblk m c 0 t) (iblk m c 1 t) i := by
  rw [outsAt0_A m c t h (by omega) (by omega)]
  frame_out
  exact pay2_apply _ _ _

/-- … and added to at the others. -/
theorem sum_next (t : Fin cfg0.N) (h : ¬t.val % 4 = 0) (i : S512x1024.Idx) :
    (outsAt0 m c t.val t.isLt).2 i = (outsAt0 m c (t.val - 1) (Nat.lt_of_le_of_lt (Nat.sub_le _ _) t.isLt)).2 i
      + part (iblk m c 0 t) (iblk m c 1 t) i := by
  by_cases h3 : t.val % 4 = 3
  · rw [outsAt0_C m c t h (by omega) h3]
    frame_out
    exact (pay3_apply _ _ _ _).trans (congrArg (fun X : Vec Ideal S512x1024 .f32 => X i + part (iblk m c 0 t) (iblk m c 1 t) i) (Memref.IsWhole.read_unread (Memref.isWhole_whole cc0_scratch0) _))
  · rw [outsAt0_B m c t h (by omega) h3]
    frame_out
    exact (pay3_apply _ _ _ _).trans (congrArg (fun X : Vec Ideal S512x1024 .f32 => X i + part (iblk m c 0 t) (iblk m c 1 t) i) (Memref.IsWhole.read_unread (Memref.isWhole_whole cc0_scratch0) _))

/-- At the last block the result's block is the running sum. -/
theorem out_last (t : Fin cfg0.N) (h3 : t.val % 4 = 3) : (outsAt0 m c t.val t.isLt).1 = (outsAt0 m c t.val t.isLt).2 := by
  funext i
  rw [outsAt0_C m c t (by omega) (by omega) h3]
  frame_out

/-- Where an entry of a block of the result, and of the blocks of the arguments, lies in the whole array. -/
theorem read_2 (W : Vec Ideal S1024x1024 .f32) (t : Fin cfg0.N) (r : Fin 512) (k : Fin 1024) :
    ((cfg0.win 2).blk t).view.read (Elt Ideal) W (ix2 r k) = W (ix2 ⟨t.val / 4 * 512 + r.val, by have := t.isLt; have h : cfg0.N = 8 := N_0; have := r.isLt; omega⟩ k) := by
  blk_point [idx t]

abbrev aY : Vec Ideal S4096x1024 .bf16 := m ((c.tc : Thread nD τ).loc main_arg0)
abbrev aD : Vec Ideal S4096x1024 .f32 := m ((c.tc : Thread nD τ).loc main_arg1)

theorem y_block (t : Fin cfg0.N) (d : Fin 1024) (r : Fin 512) : (iblk m c 0 t : Vec Ideal S1024x512 .bf16) (ix2 d r)
    = aY m c (ix2 ⟨t.val % 4 * 1024 + d.val, by have := d.isLt; omega⟩ ⟨t.val / 4 * 512 + r.val, by have := t.isLt; have h : cfg0.N = 8 := N_0; have := r.isLt; omega⟩) := by
  unfold aY
  blk_point [iblk, V, idx t]

theorem d_block (t : Fin cfg0.N) (d k : Fin 1024) : (iblk m c 1 t : Vec Ideal S1024x1024 .f32) (ix2 d k)
    = aD m c (ix2 ⟨t.val % 4 * 1024 + d.val, by have := d.isLt; omega⟩ k) := by
  unfold aD
  blk_point [iblk, V, idx t]

theorem ref_apply (y : Vec Ideal S4096x1024 .bf16) (dx : Vec Ideal S4096x1024 .f32) (r k : Fin 1024) :
    val_main_v4 (F := Ideal) y dx (ix2 r k) = ∑ l : Fin 4096, dx (ix2 l k) * y (ix2 l r) := by
  pointwise [val_main_v4, val_main_v3, val_main_v1]

theorem head (t : Fin cfg0.N) (h3 : t.val % 4 = 3) (i : S512x1024.Idx) : (outsAt0 m c t.val t.isLt).1 i
    = ((cfg0.win 2).blk t).view.read (Elt Ideal) (val_main_v4 (F := Ideal) (aY m c) (aD m c)) i := by
  obtain ⟨r, k, rfl⟩ : ∃ (r : Fin 512) (k : Fin 1024), i = ix2 r k := ⟨i 0, i 1, eq_ix2 i⟩
  refine Eq.trans ?_ (read_2 _ t r k).symm
  rw [out_last m c t h3, ref_apply,
    Pipeline.eq_sum_fin_of_reset_step_apply_of_flush (fun n h => (outsAt0 m c n h).2) 4 (fun _ => 0)
      (fun t => part (iblk m c 0 t) (iblk m c 1 t)) (fun t h i => sum_start m c t h i) (fun t h i => sum_next m c t h i) t h3, zero_add]
  unfold part
  refine Fin.sum_mul_add_congr fun s d hl => ?_
  have e1 : (4 * (t.val / 4) + s.val) % 4 = s.val := by have := s.isLt; omega
  have e2 : (4 * (t.val / 4) + s.val) / 4 = t.val / 4 := by have := s.isLt; omega
  refine (congrArg₂ (fun a b : EReal => a * b) (y_block m c _ d r) (d_block m c _ d k)).trans ((mul_comm (G := EReal) _ _).trans ?_)
  have hd : ∀ h, (⟨(4 * (t.val / 4) + s.val) % 4 * 1024 + d.val, h⟩ : Fin 4096) = ⟨s.val * 1024 + d.val, hl⟩ :=
    fun h => Fin.ext (by dsimp only; rw [e1])
  have hr : ∀ h h', (⟨(4 * (t.val / 4) + s.val) / 4 * 512 + r.val, h⟩ : Fin 1024) = ⟨t.val / 4 * 512 + r.val, h'⟩ :=
    fun h h' => Fin.ext (by dsimp only; rw [e2])
  exact congrArg₂ (fun a b : EReal => a * b) (congrArg (fun q => aD m c (ix2 q k)) (hd _))
    (congrArg₂ (fun q u => aY m c (ix2 q u)) (hd _) (hr _ _))

/-- The array the launch leaves is the reference's product. -/
theorem final (m : (ℓ : Loc Cert.Kernel10Ideal.nD Cert.Kernel10Ideal.τ Cert.Kernel10Ideal.sig) → Buf (Elt Ideal) ℓ) (c : Dev nD) : (dats m 0 c).arrAt 2 (cfgs 0).N
    = Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) := by
  refine (dats m 0 c).arrAt_eq_of_covers 2 _ (by decide +kernel) fun t ht y => ?_
  blk_simp
  rw [after0_2]
  exact head m c t ((flush0_2 t).mp ht) y

end Cert.Kernel10Ideal.Product

namespace Cert.Product10

open Idealize.ShloMosaic Idealize.ShloMosaic.TcCoe Idealize.SL.Sem

/-- The kernel's run ends with the reference's product in its result and the arguments as they were. -/
theorem run_kernel (m : (ℓ : Loc Cert.Kernel10Ideal.nD Cert.Kernel10Ideal.τ Cert.Kernel10Ideal.sig) → Buf (Elt Ideal) ℓ) (ρ : Dev Cert.Kernel10Ideal.nD → PrngReg) :
    θ_run (Cert.Kernel10Ideal.defs (F := Ideal)) (onTc (τ := Cert.Kernel10Ideal.τ) (Cert.Kernel10Ideal.main (F := Ideal))) ⟨m, fun _ => 0, ρ⟩ fun r => ∀ c : Dev Cert.Kernel10Ideal.nD,
      r.2.mem ((c.tc : Thread Cert.Kernel10Ideal.nD Cert.Kernel10Ideal.τ).loc Cert.Kernel10Ideal.main_v0) = Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))
      ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1) := by
  run_from Cert.Kernel10Ideal.Gen.run_main m ρ
  exact Cert.Kernel10Ideal.Product.final m c

/-- The reference's run. -/
theorem run_reference (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ fun r => ∀ c : Dev Cert.Reference10Ideal.nD,
      r.2.mem ((c.tc : Thread Cert.Reference10Ideal.nD Cert.Reference10Ideal.τ).loc Cert.Reference10Ideal.main_v4) = Cert.Reference10Ideal.Read.val_main_v4 (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))
      ∧ r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1) :=
  Cert.Reference10Ideal.Value.run m ρ

/-- The kernel's idealisation computes what the reference does. -/
theorem algebraic : Cert.algebraic_Kernel10Ideal_Reference10Ideal := by
  intro m g m' g' _ hagree
  refine ⟨fun c => Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference10Ideal := by
  intro m ρ _
  exact (θ_run Cert.Reference10Ideal.defs _ _).mono
    (fun r h => ⟨fun c => (h c).2, Idealize.ShloMosaic.sem_eq_zero_of_no_sems (by decide) r.2⟩) (run_reference m ρ)

end Cert.Product10

end
-- ==== Proof.Product11.lean ====
/- The convolution branch's output projection, a block of rows at a grid point. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel11Ideal.Product

open Idealize.ShloMosaic Idealize.ShloMosaic.TcCoe Idealize.SL.Sem
open Cert.Kernel11Ideal.Gen Cert.Reference11Ideal.Read

/-- The block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The array the launch leaves is the reference's product. -/
theorem final (m : (ℓ : Loc Cert.Kernel11Ideal.nD Cert.Kernel11Ideal.τ Cert.Kernel11Ideal.sig) → Buf (Elt Ideal) ℓ) (c : Dev nD) : (dats m 0 c).arrAt 2 (cfgs 0).N
    = Cert.Reference11Ideal.Read.val_main_v3 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) := by
  refine (dats m 0 c).arrAt_eq_of_covers 2 _ (by decide +kernel) fun t _ y => ?_
  blk_simp
  rw [after0_2]
  frame_out
  pointwise [k0_pay1, val_main_v3, val_main_v2, val_main_v1, val_main_v0]
  blk_point [iblk, V, idx t]

end Cert.Kernel11Ideal.Product

namespace Cert.Product11

open Idealize.ShloMosaic Idealize.ShloMosaic.TcCoe Idealize.SL.Sem

/-- The kernel's run ends with the reference's product in its result and the arguments as they were. -/
theorem run_kernel (m : (ℓ : Loc Cert.Kernel11Ideal.nD Cert.Kernel11Ideal.τ Cert.Kernel11Ideal.sig) → Buf (Elt Ideal) ℓ) (ρ : Dev Cert.Kernel11Ideal.nD → PrngReg) :
    θ_run (Cert.Kernel11Ideal.defs (F := Ideal)) (onTc (τ := Cert.Kernel11Ideal.τ) (Cert.Kernel11Ideal.main (F := Ideal))) ⟨m, fun _ => 0, ρ⟩ fun r => ∀ c : Dev Cert.Kernel11Ideal.nD,
      r.2.mem ((c.tc : Thread Cert.Kernel11Ideal.nD Cert.Kernel11Ideal.τ).loc Cert.Kernel11Ideal.main_v0) = Cert.Reference11Ideal.Read.val_main_v3 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))
      ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1) := by
  run_from Cert.Kernel11Ideal.Gen.run_main m ρ
  exact Cert.Kernel11Ideal.Product.final m c

/-- The reference's run. -/
theorem run_reference (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ fun r => ∀ c : Dev Cert.Reference11Ideal.nD,
      r.2.mem ((c.tc : Thread Cert.Reference11Ideal.nD Cert.Reference11Ideal.τ).loc Cert.Reference11Ideal.main_v3) = Cert.Reference11Ideal.Read.val_main_v3 (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))
      ∧ r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1) :=
  Cert.Reference11Ideal.Value.run m ρ

/-- The kernel's idealisation computes what the reference does. -/
theorem algebraic : Cert.algebraic_Kernel11Ideal_Reference11Ideal := by
  intro m g m' g' _ hagree
  refine ⟨fun c => Cert.Reference11Ideal.Read.val_main_v3 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference11Ideal := by
  intro m ρ _
  exact (θ_run Cert.Reference11Ideal.defs _ _).mono
    (fun r h => ⟨fun c => (h c).2, Idealize.ShloMosaic.sem_eq_zero_of_no_sems (by decide) r.2⟩) (run_reference m ρ)

end Cert.Product11

end
-- ==== Proof.Product12.lean ====
/- The gradient of the convolution branch's output projection with respect to its rows, a block of rows at a grid point. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel12Ideal.Product

open Idealize.ShloMosaic Idealize.ShloMosaic.TcCoe Idealize.SL.Sem
open Cert.Kernel12Ideal.Gen Cert.Reference12Ideal.Read

/-- The block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The array the launch leaves is the reference's product. -/
theorem final (m : (ℓ : Loc Cert.Kernel12Ideal.nD Cert.Kernel12Ideal.τ Cert.Kernel12Ideal.sig) → Buf (Elt Ideal) ℓ) (c : Dev nD) : (dats m 0 c).arrAt 2 (cfgs 0).N
    = Cert.Reference12Ideal.Read.val_main_v4 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) := by
  refine (dats m 0 c).arrAt_eq_of_covers 2 _ (by decide +kernel) fun t _ y => ?_
  blk_simp
  rw [after0_2]
  frame_out
  pointwise [k0_pay1, val_main_v4, val_main_v1, val_main_v3]
  blk_point [iblk, V, idx t]

end Cert.Kernel12Ideal.Product

namespace Cert.Product12

open Idealize.ShloMosaic Idealize.ShloMosaic.TcCoe Idealize.SL.Sem

/-- The kernel's run ends with the reference's product in its result and the arguments as they were. -/
theorem run_kernel (m : (ℓ : Loc Cert.Kernel12Ideal.nD Cert.Kernel12Ideal.τ Cert.Kernel12Ideal.sig) → Buf (Elt Ideal) ℓ) (ρ : Dev Cert.Kernel12Ideal.nD → PrngReg) :
    θ_run (Cert.Kernel12Ideal.defs (F := Ideal)) (onTc (τ := Cert.Kernel12Ideal.τ) (Cert.Kernel12Ideal.main (F := Ideal))) ⟨m, fun _ => 0, ρ⟩ fun r => ∀ c : Dev Cert.Kernel12Ideal.nD,
      r.2.mem ((c.tc : Thread Cert.Kernel12Ideal.nD Cert.Kernel12Ideal.τ).loc Cert.Kernel12Ideal.main_v0) = Cert.Reference12Ideal.Read.val_main_v4 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))
      ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1) := by
  run_from Cert.Kernel12Ideal.Gen.run_main m ρ
  exact Cert.Kernel12Ideal.Product.final m c

/-- The reference's run. -/
theorem run_reference (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ fun r => ∀ c : Dev Cert.Reference12Ideal.nD,
      r.2.mem ((c.tc : Thread Cert.Reference12Ideal.nD Cert.Reference12Ideal.τ).loc Cert.Reference12Ideal.main_v4) = Cert.Reference12Ideal.Read.val_main_v4 (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))
      ∧ r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1) :=
  Cert.Reference12Ideal.Value.run m ρ

/-- The kernel's idealisation computes what the reference does. -/
theorem algebraic : Cert.algebraic_Kernel12Ideal_Reference12Ideal := by
  intro m g m' g' _ hagree
  refine ⟨fun c => Cert.Reference12Ideal.Read.val_main_v4 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference12Ideal := by
  intro m ρ _
  exact (θ_run Cert.Reference12Ideal.defs _ _).mono
    (fun r h => ⟨fun c => (h c).2, Idealize.ShloMosaic.sem_eq_zero_of_no_sems (by decide) r.2⟩) (run_reference m ρ)

end Cert.Product12

end
-- ==== Proof.Product13.lean ====
/- The gradient of the convolution branch's output projection with respect to its weight, in one grid point: each entry is the sum over the 4096 rows. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel13Ideal.Product

open Idealize.ShloMosaic Idealize.ShloMosaic.TcCoe Idealize.SL.Sem
open Cert.Kernel13Ideal.Gen Cert.Reference13Ideal.Read

/-- The block each window stages at grid point `t`. -/
theorem idx : ∀ t : Fin cfg0.N, win0_0.index t = ![0, t.val] ∧ win0_1.index t = ![0, 0] ∧ win0_2.index t = ![t.val, 0] :=
  (by decide +kernel : ∀ t : Fin grid0.N, _)

/-- The array the launch leaves is the reference's product. -/
theorem final (m : (ℓ : Loc Cert.Kernel13Ideal.nD Cert.Kernel13Ideal.τ Cert.Kernel13Ideal.sig) → Buf (Elt Ideal) ℓ) (c : Dev nD) : (dats m 0 c).arrAt 2 (cfgs 0).N
    = Cert.Reference13Ideal.Read.val_main_v5 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) := by
  refine (dats m 0 c).arrAt_eq_of_covers 2 _ (by decide +kernel) fun t _ y => ?_
  blk_simp
  rw [after0_2]
  frame_out
  pointwise [k0_pay1, val_main_v5, val_main_v4, val_main_v1, val_main_v3]
  refine (Finset.sum_congr rfl fun _ _ => mul_comm (G := EReal) _ _).trans ?_
  blk_point [iblk, V, idx t]

end Cert.Kernel13Ideal.Product

namespace Cert.Product13

open Idealize.ShloMosaic Idealize.ShloMosaic.TcCoe Idealize.SL.Sem

/-- The kernel's run ends with the reference's product in its result and the arguments as they were. -/
theorem run_kernel (m : (ℓ : Loc Cert.Kernel13Ideal.nD Cert.Kernel13Ideal.τ Cert.Kernel13Ideal.sig) → Buf (Elt Ideal) ℓ) (ρ : Dev Cert.Kernel13Ideal.nD → PrngReg) :
    θ_run (Cert.Kernel13Ideal.defs (F := Ideal)) (onTc (τ := Cert.Kernel13Ideal.τ) (Cert.Kernel13Ideal.main (F := Ideal))) ⟨m, fun _ => 0, ρ⟩ fun r => ∀ c : Dev Cert.Kernel13Ideal.nD,
      r.2.mem ((c.tc : Thread Cert.Kernel13Ideal.nD Cert.Kernel13Ideal.τ).loc Cert.Kernel13Ideal.main_v0) = Cert.Reference13Ideal.Read.val_main_v5 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))
      ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1) := by
  run_from Cert.Kernel13Ideal.Gen.run_main m ρ
  exact Cert.Kernel13Ideal.Product.final m c

/-- The reference's run. -/
theorem run_reference (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ fun r => ∀ c : Dev Cert.Reference13Ideal.nD,
      r.2.mem ((c.tc : Thread Cert.Reference13Ideal.nD Cert.Reference13Ideal.τ).loc Cert.Reference13Ideal.main_v5) = Cert.Reference13Ideal.Read.val_main_v5 (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1) :=
  Cert.Reference13Ideal.Value.run m ρ

/-- The kernel's idealisation computes what the reference does. -/
theorem algebraic : Cert.algebraic_Kernel13Ideal_Reference13Ideal := by
  intro m g m' g' _ hagree
  refine ⟨fun c => Cert.Reference13Ideal.Read.val_main_v5 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference13Ideal := by
  intro m ρ _
  exact (θ_run Cert.Reference13Ideal.defs _ _).mono
    (fun r h => ⟨fun c => (h c).2, Idealize.ShloMosaic.sem_eq_zero_of_no_sems (by decide) r.2⟩) (run_reference m ρ)

end Cert.Product13

end
-- ==== Proof.Product14.lean ====
/- The attention branch's output projection, a block of rows at a grid point. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel14Ideal.Product

open Idealize.ShloMosaic Idealize.ShloMosaic.TcCoe Idealize.SL.Sem
open Cert.Kernel14Ideal.Gen Cert.Reference14Ideal.Read

/-- The block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The array the launch leaves is the reference's product. -/
theorem final (m : (ℓ : Loc Cert.Kernel14Ideal.nD Cert.Kernel14Ideal.τ Cert.Kernel14Ideal.sig) → Buf (Elt Ideal) ℓ) (c : Dev nD) : (dats m 0 c).arrAt 2 (cfgs 0).N
    = Cert.Reference14Ideal.Read.val_main_v3 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) := by
  refine (dats m 0 c).arrAt_eq_of_covers 2 _ (by decide +kernel) fun t _ y => ?_
  blk_simp
  rw [after0_2]
  frame_out
  pointwise [k0_pay1, val_main_v3, val_main_v2, val_main_v1, val_main_v0]
  blk_point [iblk, V, idx t]

end Cert.Kernel14Ideal.Product

namespace Cert.Product14

open Idealize.ShloMosaic Idealize.ShloMosaic.TcCoe Idealize.SL.Sem

/-- The kernel's run ends with the reference's product in its result and the arguments as they were. -/
theorem run_kernel (m : (ℓ : Loc Cert.Kernel14Ideal.nD Cert.Kernel14Ideal.τ Cert.Kernel14Ideal.sig) → Buf (Elt Ideal) ℓ) (ρ : Dev Cert.Kernel14Ideal.nD → PrngReg) :
    θ_run (Cert.Kernel14Ideal.defs (F := Ideal)) (onTc (τ := Cert.Kernel14Ideal.τ) (Cert.Kernel14Ideal.main (F := Ideal))) ⟨m, fun _ => 0, ρ⟩ fun r => ∀ c : Dev Cert.Kernel14Ideal.nD,
      r.2.mem ((c.tc : Thread Cert.Kernel14Ideal.nD Cert.Kernel14Ideal.τ).loc Cert.Kernel14Ideal.main_v0) = Cert.Reference14Ideal.Read.val_main_v3 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))
      ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1) := by
  run_from Cert.Kernel14Ideal.Gen.run_main m ρ
  exact Cert.Kernel14Ideal.Product.final m c

/-- The reference's run. -/
theorem run_reference (m : (ℓ : Loc Cert.Reference14Ideal.nD Cert.Reference14Ideal.τ Cert.Reference14Ideal.sig) → Buf (Elt Ideal) ℓ) (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ fun r => ∀ c : Dev Cert.Reference14Ideal.nD,
      r.2.mem ((c.tc : Thread Cert.Reference14Ideal.nD Cert.Reference14Ideal.τ).loc Cert.Reference14Ideal.main_v3) = Cert.Reference14Ideal.Read.val_main_v3 (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))
      ∧ r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1) :=
  Cert.Reference14Ideal.Value.run m ρ

/-- The kernel's idealisation computes what the reference does. -/
theorem algebraic : Cert.algebraic_Kernel14Ideal_Reference14Ideal := by
  intro m g m' g' _ hagree
  refine ⟨fun c => Cert.Reference14Ideal.Read.val_main_v3 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference14Ideal := by
  intro m ρ _
  exact (θ_run Cert.Reference14Ideal.defs _ _).mono
    (fun r h => ⟨fun c => (h c).2, Idealize.ShloMosaic.sem_eq_zero_of_no_sems (by decide) r.2⟩) (run_reference m ρ)

end Cert.Product14

end
-- ==== Proof.Product15.lean ====
/- The gradient of the attention branch's output projection with respect to its rows, a block of rows at a grid point. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel15Ideal.Product

open Idealize.ShloMosaic Idealize.ShloMosaic.TcCoe Idealize.SL.Sem
open Cert.Kernel15Ideal.Gen Cert.Reference15Ideal.Read

/-- The block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The array the launch leaves is the reference's product. -/
theorem final (m : (ℓ : Loc Cert.Kernel15Ideal.nD Cert.Kernel15Ideal.τ Cert.Kernel15Ideal.sig) → Buf (Elt Ideal) ℓ) (c : Dev nD) : (dats m 0 c).arrAt 2 (cfgs 0).N
    = Cert.Reference15Ideal.Read.val_main_v5 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) := by
  refine (dats m 0 c).arrAt_eq_of_covers 2 _ (by decide +kernel) fun t _ y => ?_
  blk_simp
  rw [after0_2]
  frame_out
  pointwise [k0_pay1, val_main_v5, val_main_v4, val_main_v1, val_main_v3]
  blk_point [iblk, V, idx t]

end Cert.Kernel15Ideal.Product

namespace Cert.Product15

open Idealize.ShloMosaic Idealize.ShloMosaic.TcCoe Idealize.SL.Sem

/-- The kernel's run ends with the reference's product in its result and the arguments as they were. -/
theorem run_kernel (m : (ℓ : Loc Cert.Kernel15Ideal.nD Cert.Kernel15Ideal.τ Cert.Kernel15Ideal.sig) → Buf (Elt Ideal) ℓ) (ρ : Dev Cert.Kernel15Ideal.nD → PrngReg) :
    θ_run (Cert.Kernel15Ideal.defs (F := Ideal)) (onTc (τ := Cert.Kernel15Ideal.τ) (Cert.Kernel15Ideal.main (F := Ideal))) ⟨m, fun _ => 0, ρ⟩ fun r => ∀ c : Dev Cert.Kernel15Ideal.nD,
      r.2.mem ((c.tc : Thread Cert.Kernel15Ideal.nD Cert.Kernel15Ideal.τ).loc Cert.Kernel15Ideal.main_v0) = Cert.Reference15Ideal.Read.val_main_v5 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1))
      ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1) := by
  run_from Cert.Kernel15Ideal.Gen.run_main m ρ
  exact Cert.Kernel15Ideal.Product.final m c

/-- The reference's run. -/
theorem run_reference (m : (ℓ : Loc Cert.Reference15Ideal.nD Cert.Reference15Ideal.τ Cert.Reference15Ideal.sig) → Buf (Elt Ideal) ℓ) (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ fun r => ∀ c : Dev Cert.Reference15Ideal.nD,
      r.2.mem ((c.tc : Thread Cert.Reference15Ideal.nD Cert.Reference15Ideal.τ).loc Cert.Reference15Ideal.main_v5) = Cert.Reference15Ideal.Read.val_main_v5 (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1))
      ∧ r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1) :=
  Cert.Reference15Ideal.Value.run m ρ

/-- The kernel's idealisation computes what the reference does. -/
theorem algebraic : Cert.algebraic_Kernel15Ideal_Reference15Ideal := by
  intro m g m' g' _ hagree
  refine ⟨fun c => Cert.Reference15Ideal.Read.val_main_v5 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference15Ideal := by
  intro m ρ _
  exact (θ_run Cert.Reference15Ideal.defs _ _).mono
    (fun r h => ⟨fun c => (h c).2, Idealize.ShloMosaic.sem_eq_zero_of_no_sems (by decide) r.2⟩) (run_reference m ρ)

end Cert.Product15

end
-- ==== Proof.Product16.lean ====
/- The gradient of the attention branch's output projection with respect to its weight, 512 of its 1024 rows at a grid point. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel16Ideal.Product

open Idealize.ShloMosaic Idealize.ShloMosaic.TcCoe Idealize.SL.Sem
open Cert.Kernel16Ideal.Gen Cert.Reference16Ideal.Read

/-- The block each window stages at grid point `t`. -/
theorem idx : ∀ t : Fin cfg0.N, win0_0.index t = ![0, t.val] ∧ win0_1.index t = ![0, 0] ∧ win0_2.index t = ![t.val, 0] :=
  (by decide +kernel : ∀ t : Fin grid0.N, _)

/-- The array the launch leaves is the reference's product. -/
theorem final (m : (ℓ : Loc Cert.Kernel16Ideal.nD Cert.Kernel16Ideal.τ Cert.Kernel16Ideal.sig) → Buf (Elt Ideal) ℓ) (c : Dev nD) : (dats m 0 c).arrAt 2 (cfgs 0).N
    = Cert.Reference16Ideal.Read.val_main_v5 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) := by
  refine (dats m 0 c).arrAt_eq_of_covers 2 _ (by decide +kernel) fun t _ y => ?_
  blk_simp
  rw [after0_2]
  frame_out
  pointwise [k0_pay1, val_main_v5, val_main_v4, val_main_v1, val_main_v3]
  refine (Finset.sum_congr rfl fun _ _ => mul_comm (G := EReal) _ _).trans ?_
  blk_point [iblk, V, idx t]

end Cert.Kernel16Ideal.Product

namespace Cert.Product16

open Idealize.ShloMosaic Idealize.ShloMosaic.TcCoe Idealize.SL.Sem

/-- The kernel's run ends with the reference's product in its result and the arguments as they were. -/
theorem run_kernel (m : (ℓ : Loc Cert.Kernel16Ideal.nD Cert.Kernel16Ideal.τ Cert.Kernel16Ideal.sig) → Buf (Elt Ideal) ℓ) (ρ : Dev Cert.Kernel16Ideal.nD → PrngReg) :
    θ_run (Cert.Kernel16Ideal.defs (F := Ideal)) (onTc (τ := Cert.Kernel16Ideal.τ) (Cert.Kernel16Ideal.main (F := Ideal))) ⟨m, fun _ => 0, ρ⟩ fun r => ∀ c : Dev Cert.Kernel16Ideal.nD,
      r.2.mem ((c.tc : Thread Cert.Kernel16Ideal.nD Cert.Kernel16Ideal.τ).loc Cert.Kernel16Ideal.main_v0) = Cert.Reference16Ideal.Read.val_main_v5 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1))
      ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1) := by
  run_from Cert.Kernel16Ideal.Gen.run_main m ρ
  exact Cert.Kernel16Ideal.Product.final m c

/-- The reference's run. -/
theorem run_reference (m : (ℓ : Loc Cert.Reference16Ideal.nD Cert.Reference16Ideal.τ Cert.Reference16Ideal.sig) → Buf (Elt Ideal) ℓ) (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ fun r => ∀ c : Dev Cert.Reference16Ideal.nD,
      r.2.mem ((c.tc : Thread Cert.Reference16Ideal.nD Cert.Reference16Ideal.τ).loc Cert.Reference16Ideal.main_v5) = Cert.Reference16Ideal.Read.val_main_v5 (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1))
      ∧ r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1) :=
  Cert.Reference16Ideal.Value.run m ρ

/-- The kernel's idealisation computes what the reference does. -/
theorem algebraic : Cert.algebraic_Kernel16Ideal_Reference16Ideal := by
  intro m g m' g' _ hagree
  refine ⟨fun c => Cert.Reference16Ideal.Read.val_main_v5 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference16Ideal := by
  intro m ρ _
  exact (θ_run Cert.Reference16Ideal.defs _ _).mono
    (fun r h => ⟨fun c => (h c).2, Idealize.ShloMosaic.sem_eq_zero_of_no_sems (by decide) r.2⟩) (run_reference m ρ)

end Cert.Product16

end
-- ==== Proof.Product17.lean ====
/- The gradient of the query up-projection with respect to its weight, 512 of its 1024 rows at a grid point. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel17Ideal.Product

open Idealize.ShloMosaic Idealize.ShloMosaic.TcCoe Idealize.SL.Sem
open Cert.Kernel17Ideal.Gen Cert.Reference17Ideal.Read

/-- The block each window stages at grid point `t`. -/
theorem idx : ∀ t : Fin cfg0.N, win0_0.index t = ![0, t.val] ∧ win0_1.index t = ![0, 0] ∧ win0_2.index t = ![t.val, 0] :=
  (by decide +kernel : ∀ t : Fin grid0.N, _)

/-- The array the launch leaves is the reference's product. -/
theorem final (m : (ℓ : Loc Cert.Kernel17Ideal.nD Cert.Kernel17Ideal.τ Cert.Kernel17Ideal.sig) → Buf (Elt Ideal) ℓ) (c : Dev nD) : (dats m 0 c).arrAt 2 (cfgs 0).N
    = Cert.Reference17Ideal.Read.val_main_v7 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) := by
  refine (dats m 0 c).arrAt_eq_of_covers 2 _ (by decide +kernel) fun t _ y => ?_
  blk_simp
  rw [after0_2]
  frame_out
  pointwise [k0_pay1, val_main_v7, val_main_v6, val_main_v5, val_main_v1, val_main_v4]
  blk_point [iblk, V, idx t]

end Cert.Kernel17Ideal.Product

namespace Cert.Product17

open Idealize.ShloMosaic Idealize.ShloMosaic.TcCoe Idealize.SL.Sem

/-- The kernel's run ends with the reference's product in its result and the arguments as they were. -/
theorem run_kernel (m : (ℓ : Loc Cert.Kernel17Ideal.nD Cert.Kernel17Ideal.τ Cert.Kernel17Ideal.sig) → Buf (Elt Ideal) ℓ) (ρ : Dev Cert.Kernel17Ideal.nD → PrngReg) :
    θ_run (Cert.Kernel17Ideal.defs (F := Ideal)) (onTc (τ := Cert.Kernel17Ideal.τ) (Cert.Kernel17Ideal.main (F := Ideal))) ⟨m, fun _ => 0, ρ⟩ fun r => ∀ c : Dev Cert.Kernel17Ideal.nD,
      r.2.mem ((c.tc : Thread Cert.Kernel17Ideal.nD Cert.Kernel17Ideal.τ).loc Cert.Kernel17Ideal.main_v0) = Cert.Reference17Ideal.Read.val_main_v7 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))
      ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1) := by
  run_from Cert.Kernel17Ideal.Gen.run_main m ρ
  exact Cert.Kernel17Ideal.Product.final m c

/-- The reference's run. -/
theorem run_reference (m : (ℓ : Loc Cert.Reference17Ideal.nD Cert.Reference17Ideal.τ Cert.Reference17Ideal.sig) → Buf (Elt Ideal) ℓ) (ρ : Dev Cert.Reference17Ideal.nD → PrngReg) :
    θ_run (Cert.Reference17Ideal.defs (F := Ideal)) (onTc (τ := Cert.Reference17Ideal.τ) (Cert.Reference17Ideal.main (F := Ideal))) ⟨m, fun _ => 0, ρ⟩ fun r => ∀ c : Dev Cert.Reference17Ideal.nD,
      r.2.mem ((c.tc : Thread Cert.Reference17Ideal.nD Cert.Reference17Ideal.τ).loc Cert.Reference17Ideal.main_v7) = Cert.Reference17Ideal.Read.val_main_v7 (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1))
      ∧ r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1) :=
  Cert.Reference17Ideal.Value.run m ρ

/-- The kernel's idealisation computes what the reference does. -/
theorem algebraic : Cert.algebraic_Kernel17Ideal_Reference17Ideal := by
  intro m g m' g' _ hagree
  refine ⟨fun c => Cert.Reference17Ideal.Read.val_main_v7 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference17Ideal := by
  intro m ρ _
  exact (θ_run Cert.Reference17Ideal.defs _ _).mono
    (fun r h => ⟨fun c => (h c).2, Idealize.ShloMosaic.sem_eq_zero_of_no_sems (by decide) r.2⟩) (run_reference m ρ)

end Cert.Product17

end
-- ==== Proof.Product18.lean ====
/- The gradient of the key and value up-projection with respect to its weight, in one grid point: each entry is the sum over the 4096 rows. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel18Ideal.Product

open Idealize.ShloMosaic Idealize.ShloMosaic.TcCoe Idealize.SL.Sem
open Cert.Kernel18Ideal.Gen Cert.Reference18Ideal.Read

/-- The block each window stages at grid point `t`. -/
theorem idx : ∀ t : Fin cfg0.N, win0_0.index t = ![0, t.val] ∧ win0_1.index t = ![0, 0] ∧ win0_2.index t = ![t.val, 0] :=
  (by decide +kernel : ∀ t : Fin grid0.N, _)

/-- The array the launch leaves is the reference's product. -/
theorem final (m : (ℓ : Loc Cert.Kernel18Ideal.nD Cert.Kernel18Ideal.τ Cert.Kernel18Ideal.sig) → Buf (Elt Ideal) ℓ) (c : Dev nD) : (dats m 0 c).arrAt 2 (cfgs 0).N
    = Cert.Reference18Ideal.Read.val_main_v5 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) := by
  refine (dats m 0 c).arrAt_eq_of_covers 2 _ (by decide +kernel) fun t _ y => ?_
  blk_simp
  rw [after0_2]
  frame_out
  pointwise [k0_pay1, val_main_v5, val_main_v4, val_main_v1, val_main_v3]
  refine (Finset.sum_congr rfl fun _ _ => mul_comm (G := EReal) _ _).trans ?_
  blk_point [iblk, V, idx t]

end Cert.Kernel18Ideal.Product

namespace Cert.Product18

open Idealize.ShloMosaic Idealize.ShloMosaic.TcCoe Idealize.SL.Sem

/-- The kernel's run ends with the reference's product in its result and the arguments as they were. -/
theorem run_kernel (m : (ℓ : Loc Cert.Kernel18Ideal.nD Cert.Kernel18Ideal.τ Cert.Kernel18Ideal.sig) → Buf (Elt Ideal) ℓ) (ρ : Dev Cert.Kernel18Ideal.nD → PrngReg) :
    θ_run (Cert.Kernel18Ideal.defs (F := Ideal)) (onTc (τ := Cert.Kernel18Ideal.τ) (Cert.Kernel18Ideal.main (F := Ideal))) ⟨m, fun _ => 0, ρ⟩ fun r => ∀ c : Dev Cert.Kernel18Ideal.nD,
      r.2.mem ((c.tc : Thread Cert.Kernel18Ideal.nD Cert.Kernel18Ideal.τ).loc Cert.Kernel18Ideal.main_v0) = Cert.Reference18Ideal.Read.val_main_v5 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))
      ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1) := by
  run_from Cert.Kernel18Ideal.Gen.run_main m ρ
  exact Cert.Kernel18Ideal.Product.final m c

/-- The reference's run. -/
theorem run_reference (m : (ℓ : Loc Cert.Reference18Ideal.nD Cert.Reference18Ideal.τ Cert.Reference18Ideal.sig) → Buf (Elt Ideal) ℓ) (ρ : Dev Cert.Reference18Ideal.nD → PrngReg) :
    θ_run (Cert.Reference18Ideal.defs (F := Ideal)) (onTc (τ := Cert.Reference18Ideal.τ) (Cert.Reference18Ideal.main (F := Ideal))) ⟨m, fun _ => 0, ρ⟩ fun r => ∀ c : Dev Cert.Reference18Ideal.nD,
      r.2.mem ((c.tc : Thread Cert.Reference18Ideal.nD Cert.Reference18Ideal.τ).loc Cert.Reference18Ideal.main_v5) = Cert.Reference18Ideal.Read.val_main_v5 (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1))
      ∧ r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1) :=
  Cert.Reference18Ideal.Value.run m ρ

/-- The kernel's idealisation computes what the reference does. -/
theorem algebraic : Cert.algebraic_Kernel18Ideal_Reference18Ideal := by
  intro m g m' g' _ hagree
  refine ⟨fun c => Cert.Reference18Ideal.Read.val_main_v5 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    run_kernel m g, (θ_run _ _ _).mono (fun r h c => ?_) (run_reference m' g')⟩
  obtain ⟨h0, hargs⟩ := h c
  obtain ⟨e0, e1⟩ := hagree c
  rw [e0, e1] at h0
  exact ⟨h0, hargs⟩

/-- The reference ends with its arguments unchanged; it declares no semaphore. -/
theorem frame_reference : Cert.quiescent_Reference18Ideal := by
  intro m ρ _
  exact (θ_run Cert.Reference18Ideal.defs _ _).mono
    (fun r h => ⟨fun c => (h c).2, Idealize.ShloMosaic.sem_eq_zero_of_no_sems (by decide) r.2⟩) (run_reference m ρ)

end Cert.Product18

end
-- ==== Proof.FfnModel.lean ====
module

public import proofs.«01_k».proof.Proof.Gen.Kernel9Ideal.Skeleton
public import proofs.«01_k».proof.Proof.Gen.Kernel9Ideal.Launch
public import proofs.«01_k».proof.Proof.Gen.Kernel9Ideal.Points
public import Idealize.ShloMosaic.Lib.Pipeline.FrameBody
public import Idealize.ShloMosaic.Lib.Pipeline.ValueKit
public import Idealize.ShloMosaic.Lib.Ring
public import Idealize.ShloMosaic.Lib.WordCmp
public import Idealize.ShloMosaic.Lib.Tactic

/-! # One point of the feed-forward layer

The body at a point of the grid takes a block of 512 rows and a block of 704 hidden units.  Its stores go
to two halves of the rows; what they leave is named here, and a load of a half reads that half. -/

@[expose] public section

set_option maxRecDepth 16384

noncomputable section

namespace Cert.Kernel9Ideal.Ffn

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first block of hidden units starts the row block: the normalised rows are made and the sum cleared. -/
abbrev starts (i : grid0.Coords) : Prop := (Scalar.cmpi .ne (Scalar.extui (Scalar.cmpi .eq (BitVec.ofNat 32 (i 1).val) 0#32)) 0#32) = 1#1
/-- The last block of hidden units ends it: the result's rows are stored. -/
abbrev ends (i : grid0.Coords) : Prop := k0_cond2 i = 1#1

/-! ## The rows of a block in two halves -/

abbrev loRow : Rect S512x1024 := Rect.unit ![0, 0] S256x1024.size inb_S512x1024_S256x1024_0_0
abbrev hiRow : Rect S512x1024 := Rect.unit ![256, 0] S256x1024.size inb_S512x1024_S256x1024_256_0
abbrev loUnit : Rect S1x512x704 := Rect.unit ![0, 0, 0] S1x256x704.size inb_S1x512x704_S1x256x704_0_0_0
abbrev hiUnit : Rect S1x512x704 := Rect.unit ![0, 256, 0] S1x256x704.size inb_S1x512x704_S1x256x704_0_256_0
/-- The gain's second row. -/
abbrev gainRow : Rect S2x1024 := Rect.unit ![1, 0] S1x1024.size inb_S2x1024_S1x1024_1_0

/-! ## What the body makes of its operands -/

/-- The normalised rows. -/
def normB (x : Vec F S512x1024 .f32) (g : Vec F S2x1024 .f32) : Vec F S512x1024 .bf16 := k0_pay3 x (View.ld g gainRow)
/-- The gate's rows, before the nonlinearity. -/
def gateB (h : Vec F S512x1024 .bf16) (wg : Vec F S1x704x1024 .bf16) : Vec F S1x512x704 .bf16 :=
  View.canon [⟨hiUnit, k0_pay13 (View.ld h hiRow) wg⟩, ⟨loUnit, k0_pay7 (View.ld h loRow) wg⟩]
/-- The other factor's rows. -/
def upB (h : Vec F S512x1024 .bf16) (wu : Vec F S1x704x1024 .bf16) : Vec F S1x512x704 .bf16 :=
  View.canon [⟨hiUnit, k0_pay14 (View.ld h hiRow) wu⟩, ⟨loUnit, k0_pay8 (View.ld h loRow) wu⟩]
/-- The running sum after one more block of hidden units. -/
def accB (h : Vec F S512x1024 .bf16) (wg wu wd : Vec F S1x704x1024 .bf16) (a : Vec F S512x1024 .f32) : Vec F S512x1024 .f32 :=
  View.canon [⟨hiRow, k0_pay1 (View.ld a hiRow) (k0_pay15 (View.ld h hiRow) wg wu) wd⟩,
    ⟨loRow, k0_pay10 (View.ld a loRow) (k0_pay9 (View.ld h loRow) wg wu) wd⟩]

/-! ## Two stores that fill a buffer -/

section Two
variable {sg : RefSig} {κ : Kind} {sp : Space} {s : Shape} {e : EltTy}

/-- What two stores that fill a buffer leave is theirs alone. -/
theorem read_two (v : View sg κ sp s e) (f : v.ty.Contents (Elt F)) (p q : View.Piece (Elt F) s e) (L : List (View.Piece (Elt F) s e))
    (h : ∀ y, ∃ r ∈ [p, q], y ∈ r.1.set) : v.read (Elt F) (v.writes (Elt F) f (p :: q :: L)) = View.canon [p, q] := by
  have hc : ∀ y, ∃ r ∈ (p :: q :: L), y ∈ r.1.set := fun y => by
    obtain ⟨r, hr, hy⟩ := h y
    refine ⟨r, ?_, hy⟩
    simp only [List.mem_cons, List.not_mem_nil, or_false] at hr ⊢
    rcases hr with rfl | rfl
    · exact Or.inl rfl
    · exact Or.inr (Or.inl rfl)
  rw [View.read_writes_eq_canon v f _ hc]
  funext y
  by_cases hp : y ∈ p.1.set
  · obtain ⟨r, w⟩ := p
    obtain ⟨x, rfl⟩ : ∃ x, r.emb x = y := r.exists_idx_of_mem hp
    rw [View.canon_cons_emb, View.canon_cons_emb]
  · rw [View.canon_cons_of_not_mem _ _ hp, View.canon_cons_of_not_mem _ _ hp]
    obtain ⟨r', hr, hy⟩ := h y
    have hq : y ∈ q.1.set := by
      simp only [List.mem_cons, List.not_mem_nil, or_false] at hr
      rcases hr with rfl | rfl
      · exact absurd hy hp
      · exact hy
    obtain ⟨r, w⟩ := q
    obtain ⟨x, rfl⟩ : ∃ x, r.emb x = y := r.exists_idx_of_mem hq
    rw [View.canon_cons_emb, View.canon_cons_emb]

/-- The buffer's earlier contents are not read. -/
theorem canon_two (p q : View.Piece (Elt F) s e) (L : List (View.Piece (Elt F) s e))
    (h : ∀ y, ∃ r ∈ [p, q], y ∈ r.1.set) : View.canon (p :: q :: L) = View.canon [p, q] := by
  funext y
  by_cases hp : y ∈ p.1.set
  · obtain ⟨r, w⟩ := p
    obtain ⟨x, rfl⟩ : ∃ x, r.emb x = y := r.exists_idx_of_mem hp
    rw [View.canon_cons_emb, View.canon_cons_emb]
  · rw [View.canon_cons_of_not_mem _ _ hp, View.canon_cons_of_not_mem _ _ hp]
    obtain ⟨r', hr, hy⟩ := h y
    have hq : y ∈ q.1.set := by
      simp only [List.mem_cons, List.not_mem_nil, or_false] at hr
      rcases hr with rfl | rfl
      · exact absurd hy hp
      · exact hy
    obtain ⟨r, w⟩ := q
    obtain ⟨x, rfl⟩ : ∃ x, r.emb x = y := r.exists_idx_of_mem hq
    rw [View.canon_cons_emb, View.canon_cons_emb]
end Two

theorem rows_cover (a b : Vec F S256x1024 .f32) (y : S512x1024.Idx) :
    ∃ r ∈ ([⟨hiRow, a⟩, ⟨loRow, b⟩] : List (View.Piece (Elt F) S512x1024 .f32)), y ∈ r.1.set :=
  View.cover_of_tiledL (s := S512x1024) _ S256x1024.size (by sl_kernel_rfl) y

theorem units_cover (a b : Vec F S1x256x704 .bf16) (y : S1x512x704.Idx) :
    ∃ r ∈ ([⟨hiUnit, a⟩, ⟨loUnit, b⟩] : List (View.Piece (Elt F) S1x512x704 .bf16)), y ∈ r.1.set :=
  View.cover_of_tiledL (s := S1x512x704) _ S1x256x704.size (by sl_kernel_rfl) y

theorem whole_cover {e : EltTy} (a : Vec F S512x1024 e) (y : S512x1024.Idx) :
    ∃ r ∈ ([⟨Rect.unit ![0, 0] S512x1024.size inb_S512x1024_S512x1024_0_0, a⟩] : List (View.Piece (Elt F) S512x1024 e)), y ∈ r.1.set :=
  View.cover_of_tiledL _ S512x1024.size (by sl_kernel_rfl) y

/-- The lower rows do not see a store into the upper ones. -/
theorem hi_after_lo (w : loRow.shape.Idx → Elt F .f32) (L : List (View.Piece (Elt F) S512x1024 .f32)) :
    (fun j => View.canon (⟨loRow, w⟩ :: L) (hiRow.toLoadRect.idx j)) = fun j => View.canon L (hiRow.toLoadRect.idx j) :=
  funext fun j => View.canon_cons_of_not_mem _ L
    (Finset.disjoint_right.mp (show Disjoint loRow.set hiRow.set from Rect.unit_disjoint (0 : Fin 2) (Or.inl (by decide))) (hiRow.toLoadRect.idx_mem j))

end Cert.Kernel9Ideal.Ffn

end
-- ==== Proof.FfnRunA.lean ====
module

public import proofs.«01_k».proof.Proof.FfnModel

/-! # The body's run: case A -/

@[expose] public section

set_option maxRecDepth 16384

noncomputable section

namespace Cert.Kernel9Ideal.Ffn

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first block of hidden units: the rows are normalised, the sum starts at zero. -/
theorem bodyA (c : Dev nD) (i : grid0.Coords) (arg2 : Memref sig .tc .vmem S512x1024 .f32) (harg2 : arg2.IsWhole) (arg3 : Memref sig .tc .vmem S2x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S512x1024 .f32) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S512x1024 .bf16) (harg10 : arg10.IsWhole) (arg11 : Memref sig .tc .vmem S512x1024 .f32) (harg11 : arg11.IsWhole) (hc0 : starts i) (hc1 : ¬ends i)
    (x0 : Vec F S512x1024 .f32) (x1 : Vec F S2x1024 .f32) (x2 x3 x4 : Vec F S1x704x1024 .bf16) (xi : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare (gateB (normB x0 x1) x2) ∗ owns (c : Thread nD τ) arg9 fullShare (upB (normB x0 x1) x3) ∗ owns (c : Thread nD τ) arg10 fullShare (normB x0 x1) ∗ owns (c : Thread nD τ) arg11 fullShare (accB (normB x0 x1) x2 x3 x4 (k0_pay4 (F := F)))) -∗ K ⟨⟩))
      ⊢ wp frame (wpE (defs₀ (F := F)) Variants.none c none) E (cc0_ffn2_fwd_1 i arg2 harg2 arg3 harg3 arg4 harg4 arg5 harg5 arg6 harg6 arg7 harg7 arg8 harg8 arg9 harg9 arg10 harg10 arg11 harg11) K := by
  simp only [cc0_ffn2_fwd_1_eq_skeleton]; unfold cc0_ffn2_fwd_1_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (read_two _ _ _ _ _ (units_cover _ _)).trans ?_
    unfold bodyA.sl.v3
    unfold bodyA.sl.v35
    unfold bodyA.sl.H10_1
    unfold gateB normB
    simp (disch := decide) only [View.readAt_eq_ld, Memref.IsWhole.read_unread, View.ld_unit_lit', View.readCov_eq_canon', View.canon_cons_unit_lit']
    try rfl
  isplitl [H9]
  · iexists _; isplitr; swap; · iexact H9
    ipureintro
    refine (read_two _ _ _ _ _ (units_cover _ _)).trans ?_
    unfold bodyA.sl.v3
    unfold bodyA.sl.v35
    unfold bodyA.sl.H10_1
    unfold upB normB
    simp (disch := decide) only [View.readAt_eq_ld, Memref.IsWhole.read_unread, View.ld_unit_lit', View.readCov_eq_canon', View.canon_cons_unit_lit']
    try rfl
  isplitl [H10]
  · iexists _; isplitr; swap; · iexact H10
    ipureintro
    unfold bodyA.sl.H10_1
    refine (View.read_writes_eq_canon _ _ _ (whole_cover _)).trans ?_
    unfold normB
    simp (disch := decide) only [View.readAt_eq_ld, Memref.IsWhole.read_unread, View.ld_unit_lit', View.readCov_eq_canon', View.canon_cons_unit_lit']
  iexists _; isplitr; swap; · iexact H11
  ipureintro
  unfold bodyA.sl.H11_2
  refine (read_two _ _ _ _ _ (rows_cover _ _)).trans ?_
  unfold bodyA.sl.v50
  unfold bodyA.sl.H11_2
  unfold bodyA.sl.v18
  unfold bodyA.sl.H11_1
  unfold bodyA.sl.v3
  unfold bodyA.sl.v35
  unfold bodyA.sl.H10_1
  unfold accB normB
  simp only [View.readCov_eq_canon']
  rw [hi_after_lo]
  simp (disch := decide) only [View.readAt_eq_ld, Memref.IsWhole.read_unread, View.ld_unit_lit', View.readCov_eq_canon', View.canon_cons_unit_lit']
  try rfl

end Cert.Kernel9Ideal.Ffn

end
-- ==== Proof.FfnRunB.lean ====
module

public import proofs.«01_k».proof.Proof.FfnRunA

/-! # The body's run: case B -/

@[expose] public section

set_option maxRecDepth 16384

noncomputable section

namespace Cert.Kernel9Ideal.Ffn

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a block in between: the rows and the sum are what the block before left. -/
theorem bodyB (c : Dev nD) (i : grid0.Coords) (arg2 : Memref sig .tc .vmem S512x1024 .f32) (harg2 : arg2.IsWhole) (arg3 : Memref sig .tc .vmem S2x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S512x1024 .f32) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S512x1024 .bf16) (harg10 : arg10.IsWhole) (arg11 : Memref sig .tc .vmem S512x1024 .f32) (harg11 : arg11.IsWhole) (hc0 : ¬starts i) (hc1 : ¬ends i)
    (x0 : Vec F S512x1024 .f32) (x1 : Vec F S2x1024 .f32) (x2 x3 x4 : Vec F S1x704x1024 .bf16) (h : Vec F S512x1024 .bf16) (a : Vec F S512x1024 .f32) (xi : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d) ∗ (∃ d, owns (c : Thread nD τ) arg9 fullShare d) ∗ owns (c : Thread nD τ) arg10 fullShare h ∗ owns (c : Thread nD τ) arg11 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare (gateB h x2) ∗ owns (c : Thread nD τ) arg9 fullShare (upB h x3) ∗ owns (c : Thread nD τ) arg10 fullShare h ∗ owns (c : Thread nD τ) arg11 fullShare (accB h x2 x3 x4 a)) -∗ K ⟨⟩))
      ⊢ wp frame (wpE (defs₀ (F := F)) Variants.none c none) E (cc0_ffn2_fwd_1 i arg2 harg2 arg3 harg3 arg4 harg4 arg5 harg5 arg6 harg6 arg7 harg7 arg8 harg8 arg9 harg9 arg10 harg10 arg11 harg11) K := by
  simp only [cc0_ffn2_fwd_1_eq_skeleton]; unfold cc0_ffn2_fwd_1_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (read_two _ _ _ _ _ (units_cover _ _)).trans ?_
    unfold gateB
    simp (disch := decide) only [View.readAt_eq_ld, Memref.IsWhole.read_unread, View.ld_unit_lit', View.readCov_eq_canon', View.canon_cons_unit_lit']
    try rfl
  isplitl [H9]
  · iexists _; isplitr; swap; · iexact H9
    ipureintro
    refine (read_two _ _ _ _ _ (units_cover _ _)).trans ?_
    unfold upB
    simp (disch := decide) only [View.readAt_eq_ld, Memref.IsWhole.read_unread, View.ld_unit_lit', View.readCov_eq_canon', View.canon_cons_unit_lit']
    try rfl
  isplitl [H10]
  · iexists _; isplitr; · ipureintro; exact harg10.read_unread _
    iexact H10
  iexists _; isplitr; swap; · iexact H11
  ipureintro
  refine (read_two _ _ _ _ _ (rows_cover _ _)).trans ?_
  unfold bodyB.sl.v50
  unfold accB
  simp (disch := decide) only [View.readAt_eq_ld, Memref.IsWhole.read_unread, View.ld_unit_lit', View.readCov_eq_canon', View.canon_cons_unit_lit']
  try rfl

end Cert.Kernel9Ideal.Ffn

end
-- ==== Proof.FfnRunC.lean ====
module

public import proofs.«01_k».proof.Proof.FfnRunB

/-! # The body's run: case C -/

@[expose] public section

set_option maxRecDepth 16384

noncomputable section

namespace Cert.Kernel9Ideal.Ffn

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last block: the result's rows are stored as well. -/
theorem bodyC (c : Dev nD) (i : grid0.Coords) (arg2 : Memref sig .tc .vmem S512x1024 .f32) (harg2 : arg2.IsWhole) (arg3 : Memref sig .tc .vmem S2x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S512x1024 .f32) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S512x1024 .bf16) (harg10 : arg10.IsWhole) (arg11 : Memref sig .tc .vmem S512x1024 .f32) (harg11 : arg11.IsWhole) (hc0 : ¬starts i) (hc1 : ends i)
    (x0 : Vec F S512x1024 .f32) (x1 : Vec F S2x1024 .f32) (x2 x3 x4 : Vec F S1x704x1024 .bf16) (h : Vec F S512x1024 .bf16) (a : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare h ∗ owns (c : Thread nD τ) arg11 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 x0 (accB h x2 x3 x4 a)) ∗ owns (c : Thread nD τ) arg8 fullShare (gateB h x2) ∗ owns (c : Thread nD τ) arg9 fullShare (upB h x3) ∗ owns (c : Thread nD τ) arg10 fullShare h ∗ owns (c : Thread nD τ) arg11 fullShare (accB h x2 x3 x4 a)) -∗ K ⟨⟩))
      ⊢ wp frame (wpE (defs₀ (F := F)) Variants.none c none) E (cc0_ffn2_fwd_1 i arg2 harg2 arg3 harg3 arg4 harg4 arg5 harg5 arg6 harg6 arg7 harg7 arg8 harg8 arg9 harg9 arg10 harg10 arg11 harg11) K := by
  simp only [cc0_ffn2_fwd_1_eq_skeleton]; unfold cc0_ffn2_fwd_1_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_eq_canon _ _ _ (whole_cover _)).trans ?_
    unfold bodyC.sl.v71 bodyC.sl.H11_2 bodyC.sl.v50
    simp (disch := decide) only [View.readCov_eq_canon', View.canon_cons_unit_lit']
    rw [canon_two _ _ _ (rows_cover _ _)]
    unfold accB
    simp (disch := decide) only [View.readAt_eq_ld, Memref.IsWhole.read_unread, View.ld_unit_lit', View.readCov_eq_canon', View.canon_cons_unit_lit']
    refine congrArg (k0_pay2 x0) ?_
    exact View.ld_unit_lit' (S := S512x1024) inb_S512x1024_S512x1024_0_0 _ (by decide)
  isplitl [H8]
  · iexists _; isplitr; swap; · iexact H8
    ipureintro
    refine (read_two _ _ _ _ _ (units_cover _ _)).trans ?_
    unfold gateB
    simp (disch := decide) only [View.readAt_eq_ld, Memref.IsWhole.read_unread, View.ld_unit_lit', View.readCov_eq_canon', View.canon_cons_unit_lit']
    try rfl
  isplitl [H9]
  · iexists _; isplitr; swap; · iexact H9
    ipureintro
    refine (read_two _ _ _ _ _ (units_cover _ _)).trans ?_
    unfold upB
    simp (disch := decide) only [View.readAt_eq_ld, Memref.IsWhole.read_unread, View.ld_unit_lit', View.readCov_eq_canon', View.canon_cons_unit_lit']
    try rfl
  isplitl [H10]
  · iexists _; isplitr; · ipureintro; exact harg10.read_unread _
    iexact H10
  iexists _; isplitr; swap; · iexact H11
  ipureintro
  unfold bodyC.sl.H11_2
  refine (read_two _ _ _ _ _ (rows_cover _ _)).trans ?_
  unfold bodyC.sl.v50
  unfold accB
  simp (disch := decide) only [View.readAt_eq_ld, Memref.IsWhole.read_unread, View.ld_unit_lit', View.readCov_eq_canon', View.canon_cons_unit_lit']
  try rfl

end Cert.Kernel9Ideal.Ffn

end
-- ==== Proof.FfnFrame.lean ====
module

public import proofs.«01_k».proof.Proof.FfnRunC
public import Idealize.ShloMosaic.Lib.Claim

/-! # The feed-forward layer's run

The grid takes eight blocks of rows, and for each of them four blocks of hidden units.  The normalised
rows and the running sum stay in two buffers of the kernel's own from a point to the next; `kept` says
what they hold after each point.  The run ends with the arrays at what the points make, the arguments
unchanged and every counter at zero. -/

@[expose] public section

set_option maxRecDepth 16384
set_option maxHeartbeats 1000000

noncomputable section

namespace Cert.Kernel9Ideal.Ffn

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the pipeline starts: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Which points start and end a block of rows -/

theorem starts_iff : ∀ t : Fin cfg0.N, starts (grid0.coords t) ↔ t.val % 4 = 0 :=
  (by decide +kernel : ∀ t : Fin grid0.N, starts (grid0.coords t) ↔ t.val % 4 = 0)
theorem ends_iff : ∀ t : Fin cfg0.N, ends (grid0.coords t) ↔ t.val % 4 = 3 :=
  (by decide +kernel : ∀ t : Fin grid0.N, ends (grid0.coords t) ↔ t.val % 4 = 3)
theorem live_out : ∀ t : Fin cfg0.N, ends (grid0.coords t) → cfg0.idle 5 (grid0.coords t) = false := by decide +kernel
theorem idle_out : ∀ t : Fin cfg0.N, ¬ends (grid0.coords t) → cfg0.idle 5 (grid0.coords t) = true := by decide +kernel
theorem still_out : ∀ t : Fin cfg0.N, ¬ends (grid0.coords t) → (cfg0.win 5).flush t = false := by decide +kernel

abbrev ms0_0 (t : Fin cfg0.N) : Memref sig .tc .vmem S512x1024 .f32 := win0_0.stage (cfg0.slots t 0)
abbrev ms0_1 (t : Fin cfg0.N) : Memref sig .tc .vmem S2x1024 .f32 := win0_1.stage (cfg0.slots t 1)
abbrev ms0_2 (t : Fin cfg0.N) : Memref sig .tc .vmem S1x704x1024 .bf16 := win0_2.stage (cfg0.slots t 2)
abbrev ms0_3 (t : Fin cfg0.N) : Memref sig .tc .vmem S1x704x1024 .bf16 := win0_3.stage (cfg0.slots t 3)
abbrev ms0_4 (t : Fin cfg0.N) : Memref sig .tc .vmem S1x704x1024 .bf16 := win0_4.stage (cfg0.slots t 4)
abbrev ms0_5 (t : Fin cfg0.N) : Memref sig .tc .vmem S512x1024 .f32 := win0_5.stage (cfg0.slots t 5)
abbrev ms0_6 (t : Fin cfg0.N) : Memref sig .tc .vmem S1x512x704 .bf16 := win0_6.stage (cfg0.slots t 6)
abbrev ms0_7 (t : Fin cfg0.N) : Memref sig .tc .vmem S1x512x704 .bf16 := win0_7.stage (cfg0.slots t 7)

abbrev scH : Memref sig .tc .vmem S512x1024 .bf16 := Memref.whole cc0_scratch0
abbrev scA : Memref sig .tc .vmem S512x1024 .f32 := Memref.whole cc0_scratch1

theorem PhiA0_eq (c : Dev nD) :
    (Pipeline.ΦA spec0 c : sProp 𝕄)
      = iprop(iprop((∃ d, owns (c : Thread nD τ) scH fullShare d) ∗ (∃ d, owns (c : Thread nD τ) scA fullShare d)) ∗ (∃ r, prngReg c r)) := by
  unfold Pipeline.ΦA; rw [scopedRest0_eq]; simp only [scH, scA, owns_whole]; try rfl

/-! ## What the kernel's own buffers hold -/

/-- After the point that starts a block of rows. -/
def keptStart (c : Dev nD) (t : Fin cfg0.N) : Vec F S512x1024 .bf16 × Vec F S512x1024 .f32 :=
  (normB (iblk m c 0 t) (iblk m c 1 t), accB (normB (iblk m c 0 t) (iblk m c 1 t)) (iblk m c 2 t) (iblk m c 3 t) (iblk m c 4 t) (k0_pay4 (F := F)))
/-- After a later point, from what the point before left. -/
def keptNext (c : Dev nD) (t : Fin cfg0.N) (k : Vec F S512x1024 .bf16 × Vec F S512x1024 .f32) : Vec F S512x1024 .bf16 × Vec F S512x1024 .f32 :=
  (k.1, accB k.1 (iblk m c 2 t) (iblk m c 3 t) (iblk m c 4 t) k.2)

/-- The normalised rows and the running sum after point `n`. -/
def kept (c : Dev nD) : (n : ℕ) → n < cfg0.N → Vec F S512x1024 .bf16 × Vec F S512x1024 .f32
  | 0, hn => keptStart m c ⟨0, hn⟩
  | n + 1, hn => if (n + 1) % 4 = 0 then keptStart m c ⟨n + 1, hn⟩ else keptNext m c ⟨n + 1, hn⟩ (kept c n (Nat.lt_of_succ_lt hn))

theorem kept_start (c : Dev nD) (t : Fin cfg0.N) (h : t.val % 4 = 0) : kept m c t.val t.isLt = keptStart m c t := by
  obtain ⟨n, hn⟩ := t
  cases n with
  | zero => rfl
  | succ n => exact if_pos h

theorem kept_next (c : Dev nD) (t : Fin cfg0.N) (h : ¬t.val % 4 = 0) :
    kept m c t.val t.isLt = keptNext m c t (kept m c (t.val - 1) (Nat.lt_of_le_of_lt (Nat.sub_le _ _) t.isLt)) := by
  obtain ⟨n, hn⟩ := t
  cases n with
  | zero => exact absurd (Nat.zero_mod _) h
  | succ n => exact if_neg h

/-- The invariant before position `n`. -/
def PhiS (c : Dev nD) : (n : ℕ) → n ≤ cfg0.N → sProp 𝕄
  | 0, _ => Pipeline.ΦA spec0 c
  | n + 1, hn => iprop(iprop(owns (c : Thread nD τ) scH fullShare (kept m c n hn).1 ∗ owns (c : Thread nD τ) scA fullShare (kept m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scH fullShare (kept m c n hn).1 ∗ owns (c : Thread nD τ) scA fullShare (kept m c n hn).2) ∗ (∃ r, prngReg c r)) := rfl
theorem PhiS_pos (c : Dev nD) (n : ℕ) (h : n ≤ cfg0.N) (hz : n ≠ 0) :
    PhiS m c n h = iprop(iprop(owns (c : Thread nD τ) scH fullShare (kept m c (n - 1) (by omega)).1 ∗ owns (c : Thread nD τ) scA fullShare (kept m c (n - 1) (by omega)).2) ∗ (∃ r, prngReg c r)) := by
  cases n with
  | zero => exact absurd rfl hz
  | succ n => rfl

/-- The proof data: the inputs' buffers at their blocks, the results' at what the point makes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 0 t) (kept m c t.val t.isLt).2
    | ⟨6, _⟩ => gateB (kept m c t.val t.isLt).1 (iblk m c 2 t)
    | ⟨7, _⟩ => upB (kept m c t.val t.isLt).1 (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  rw [← after0_0 m c t]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  rw [← after0_1 m c t]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  rw [← after0_2 m c t]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  rw [← after0_3 m c t]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  rw [← after0_4 m c t]
theorem after0_5 (c : Dev nD) (t : Fin cfg0.N) : (dats m 0 c).after 5 t = k0_pay2 (iblk m c 0 t) (kept m c t.val t.isLt).2 := by dsimp only [dats]
theorem after0_6 (c : Dev nD) (t : Fin cfg0.N) : (dats m 0 c).after 6 t = gateB (kept m c t.val t.isLt).1 (iblk m c 2 t) := by dsimp only [dats]
theorem after0_7 (c : Dev nD) (t : Fin cfg0.N) : (dats m 0 c).after 7 t = upB (kept m c t.val t.isLt).1 (iblk m c 3 t) := by dsimp only [dats]
theorem leaves0_6 (c : Dev nD) (t : Fin cfg0.N) : (dats m 0 c).leavesExact 6 t = owns (c : Thread nD τ) (ms0_6 t) fullShare (gateB (kept m c t.val t.isLt).1 (iblk m c 2 t)) := by
  rw [← after0_6 m c t]
theorem leaves0_7 (c : Dev nD) (t : Fin cfg0.N) : (dats m 0 c).leavesExact 7 t = owns (c : Thread nD τ) (ms0_7 t) fullShare (upB (kept m c t.val t.isLt).1 (iblk m c 3 t)) := by
  rw [← after0_7 m c t]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_6, leaves0_7]
  by_cases h0 : t.val % 4 = 0
  · have hs := (starts_iff t).mpr h0
    have he : ¬ends (grid0.coords t) := fun h => by have := (ends_iff t).mp h; omega
    rw [Dat.leavesExact_idle (dats m 0 c) 5 t (idle_out t he) (still_out t he)]
    rw [kept_start m c t h0]; unfold keptStart; dsimp only
    by_cases hz : t.val = 0
    · rw [PhiS_castSucc m c t, PhiS_zero m c _ _ hz, PhiA0_eq]
      iintro ⟨⟨⟨HH, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords t) _ _ _ _ _ _ _ _ _ _ _ _ _ _ _ _ _ _ _ _ hs he (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HH]; · iexact HH
      isplitl [HA]; · iexact HA
      iintro ⟨H0, H1, H2, H3, H4, H5, H6, H7, HH, HA⟩
      isplitl [HH HA Hg]
      · isplitl [HH HA]
        · isplitl [HH]; · iexact HH
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iexact H7
    · rw [PhiS_castSucc m c t, PhiS_pos m c _ _ hz]
      iintro ⟨⟨⟨HH, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords t) _ _ _ _ _ _ _ _ _ _ _ _ _ _ _ _ _ _ _ _ hs he (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HH]; · iexists _; iexact HH
      isplitl [HA]; · iexists _; iexact HA
      iintro ⟨H0, H1, H2, H3, H4, H5, H6, H7, HH, HA⟩
      isplitl [HH HA Hg]
      · isplitl [HH HA]
        · isplitl [HH]; · iexact HH
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iexact H7
  · have hs : ¬starts (grid0.coords t) := fun h => h0 ((starts_iff t).mp h)
    have hz : t.val ≠ 0 := fun h => h0 (by rw [h])
    rw [PhiS_castSucc m c t, PhiS_pos m c _ _ hz]
    rw [kept_next m c t h0]
    by_cases h3 : t.val % 4 = 3
    · have he := (ends_iff t).mpr h3
      rw [show (dats m 0 c).leavesExact 5 t = owns (c : Thread nD τ) (ms0_5 t) fullShare ((dats m 0 c).after 5 t) from by
        unfold Dat.leavesExact; rw [live_out t he], after0_5, kept_next m c t h0]
      unfold keptNext; dsimp only
      iintro ⟨⟨⟨HH, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyC c (grid0.coords t) _ _ _ _ _ _ _ _ _ _ _ _ _ _ _ _ _ _ _ _ hs he (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HH]; · iexact HH
      isplitl [HA]; · iexact HA
      iintro ⟨H0, H1, H2, H3, H4, H5, H6, H7, HH, HA⟩
      isplitl [HH HA Hg]
      · isplitl [HH HA]
        · isplitl [HH]; · iexact HH
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have he : ¬ends (grid0.coords t) := fun h => h3 ((ends_iff t).mp h)
      rw [Dat.leavesExact_idle (dats m 0 c) 5 t (idle_out t he) (still_out t he)]
      unfold keptNext; dsimp only
      iintro ⟨⟨⟨HH, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyB c (grid0.coords t) _ _ _ _ _ _ _ _ _ _ _ _ _ _ _ _ _ _ _ _ hs he (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HH]; · iexact HH
      isplitl [HA]; · iexact HA
      iintro ⟨H0, H1, H2, H3, H4, H5, H6, H7, HH, HA⟩
      isplitl [HH HA Hg]
      · isplitl [HH HA]
        · isplitl [HH]; · iexact HH
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HH, HA⟩, Hg⟩
  isplitl [HH HA]
  · isplitl [HH]
    · iexists _; iexact HH
    iexists _; iexact HA
  iexact Hg

theorem hout (c : Dev nD) : (dats m 0 c).Φ (Fin.last cfg0.N) ⊢ Pipeline.ΦA spec0 c :=
  Phi_out m c _ (by rw [Fin.val_last]; have : cfg0.N = 32 := N_0; omega)

/-! ## The run -/

-- the implicit arguments are found through plain definitions in a metavariable's type
set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩) (run_main_quiescent m ρ)

end Cert.Kernel9Ideal.Ffn

end
-- ==== Proof.FfnPoint.lean ====
module

public import proofs.«01_k».proof.Proof.FfnModel
public import proofs.«01_k».proof.Proof.Gen.Reference9Ideal.Read
public import Idealize.ShloMosaic.Lib.Pipeline.ValueKit
public import Idealize.ShloMosaic.Lib.Pointwise

/-! # The feed-forward layer's blocks, entry by entry

Each block the body makes is read at one entry, over the reals: the normalised rows, the two products
with the rows of a weight, and the running sum.  The reference's arrays are read the same way. -/

@[expose] public section

set_option maxRecDepth 16384
set_option maxHeartbeats 1000000

noncomputable section

namespace Cert.Kernel9Ideal.Ffn

open Idealize.ShloMosaic Idealize.ShloMosaic.TcCoe Idealize.SL.Sem
open Cert.Kernel9Ideal Cert.Kernel9Ideal.Gen

/-- The gated unit: the gate's sigmoid-weighted value times the other factor. -/
def unit (g u : EReal) : EReal := g * Ideal.div 1 (1 + Ideal.exp (0 - g)) * u

/-- One hidden unit's product: a normalised row with the unit's row of a weight. -/
def dotRow (h : Fin 1024 → EReal) (w : Vec Ideal S1x704x1024 .bf16) (f : Fin 704) : EReal := ∑ d : Fin 1024, h d * w (ix3 0 f d)

/-- What a block of hidden units adds to one entry of the result. -/
def gain (h : Fin 1024 → EReal) (wg wu wd : Vec Ideal S1x704x1024 .bf16) (k : Fin 1024) : EReal :=
  ∑ f : Fin 704, unit (dotRow h wg f) (dotRow h wu f) * wd (ix3 0 f k)

/-! ## The body's words -/

theorem pay5_apply (h : Vec Ideal S256x1024 .bf16) (w : Vec Ideal S1x704x1024 .bf16) (r : Fin 256) (f : Fin 704) :
    k0_pay5 (F := Ideal) h w (ix2 r f) = dotRow (fun d => h (ix2 r d)) w f := by
  unfold dotRow
  pointwise [k0_pay5]

theorem pay6_apply (h : Vec Ideal S256x1024 .bf16) (w : Vec Ideal S1x704x1024 .bf16) (r : Fin 256) (f : Fin 704) :
    k0_pay6 (F := Ideal) h w (ix2 r f) = dotRow (fun d => h (ix2 r d)) w f := by
  unfold dotRow
  pointwise [k0_pay6]

theorem pay11_apply (h : Vec Ideal S256x1024 .bf16) (w : Vec Ideal S1x704x1024 .bf16) (r : Fin 256) (f : Fin 704) :
    k0_pay11 (F := Ideal) h w (ix2 r f) = dotRow (fun d => h (ix2 r d)) w f := by
  unfold dotRow
  pointwise [k0_pay11]

theorem pay12_apply (h : Vec Ideal S256x1024 .bf16) (w : Vec Ideal S1x704x1024 .bf16) (r : Fin 256) (f : Fin 704) :
    k0_pay12 (F := Ideal) h w (ix2 r f) = dotRow (fun d => h (ix2 r d)) w f := by
  unfold dotRow
  pointwise [k0_pay12]

theorem pay7_apply (h : Vec Ideal S256x1024 .bf16) (w : Vec Ideal S1x704x1024 .bf16) (r : Fin 256) (f : Fin 704) :
    k0_pay7 (F := Ideal) h w (ix3 0 r f) = dotRow (fun d => h (ix2 r d)) w f := by
  rw [← pay5_apply]
  pointwise [k0_pay7]

theorem pay8_apply (h : Vec Ideal S256x1024 .bf16) (w : Vec Ideal S1x704x1024 .bf16) (r : Fin 256) (f : Fin 704) :
    k0_pay8 (F := Ideal) h w (ix3 0 r f) = dotRow (fun d => h (ix2 r d)) w f := by
  rw [← pay6_apply]
  pointwise [k0_pay8]

theorem pay13_apply (h : Vec Ideal S256x1024 .bf16) (w : Vec Ideal S1x704x1024 .bf16) (r : Fin 256) (f : Fin 704) :
    k0_pay13 (F := Ideal) h w (ix3 0 r f) = dotRow (fun d => h (ix2 r d)) w f := by
  rw [← pay11_apply]
  pointwise [k0_pay13]

theorem pay14_apply (h : Vec Ideal S256x1024 .bf16) (w : Vec Ideal S1x704x1024 .bf16) (r : Fin 256) (f : Fin 704) :
    k0_pay14 (F := Ideal) h w (ix3 0 r f) = dotRow (fun d => h (ix2 r d)) w f := by
  rw [← pay12_apply]
  pointwise [k0_pay14]

theorem pay9_apply (h : Vec Ideal S256x1024 .bf16) (w u : Vec Ideal S1x704x1024 .bf16) (r : Fin 256) (f : Fin 704) :
    k0_pay9 (F := Ideal) h w u (ix2 r f) = unit (dotRow (fun d => h (ix2 r d)) w f) (dotRow (fun d => h (ix2 r d)) u f) := by
  rw [← pay5_apply, ← pay6_apply]
  unfold unit
  pointwise [k0_pay9]

theorem pay15_apply (h : Vec Ideal S256x1024 .bf16) (w u : Vec Ideal S1x704x1024 .bf16) (r : Fin 256) (f : Fin 704) :
    k0_pay15 (F := Ideal) h w u (ix2 r f) = unit (dotRow (fun d => h (ix2 r d)) w f) (dotRow (fun d => h (ix2 r d)) u f) := by
  rw [← pay11_apply, ← pay12_apply]
  unfold unit
  pointwise [k0_pay15]

theorem pay10_apply (a : Vec Ideal S256x1024 .f32) (h : Vec Ideal S256x1024 .bf16) (wg wu wd : Vec Ideal S1x704x1024 .bf16) (r : Fin 256) (k : Fin 1024) :
    k0_pay10 (F := Ideal) a (k0_pay9 (F := Ideal) h wg wu) wd (ix2 r k) = a (ix2 r k) + gain (fun d => h (ix2 r d)) wg wu wd k := by
  unfold gain
  simp only [← pay9_apply]
  pointwise [k0_pay10]

theorem pay1_apply (a : Vec Ideal S256x1024 .f32) (h : Vec Ideal S256x1024 .bf16) (wg wu wd : Vec Ideal S1x704x1024 .bf16) (r : Fin 256) (k : Fin 1024) :
    k0_pay1 (F := Ideal) a (k0_pay15 (F := Ideal) h wg wu) wd (ix2 r k) = a (ix2 r k) + gain (fun d => h (ix2 r d)) wg wu wd k := by
  unfold gain
  simp only [← pay15_apply]
  pointwise [k0_pay1]

/-! ## A half's rows in the block -/

theorem ld_lo {e : EltTy} (X : Vec Ideal S512x1024 e) (r : Fin 256) (d : Fin 1024) :
    View.ld X loRow (ix2 (n0 := 256) (n1 := 1024) r d) = X (ix2 ⟨r.val, by have := r.isLt; omega⟩ d) :=
  View.ld_unit_apply_of X _ _ _ _ _ fun a => by match a with
    | ⟨0, _⟩ => exact (Nat.zero_add _).symm
    | ⟨1, _⟩ => exact (Nat.zero_add _).symm

theorem ld_hi {e : EltTy} (X : Vec Ideal S512x1024 e) (r : Fin 256) (d : Fin 1024) :
    View.ld X hiRow (ix2 (n0 := 256) (n1 := 1024) r d) = X (ix2 ⟨256 + r.val, by have := r.isLt; omega⟩ d) :=
  View.ld_unit_apply_of X _ _ _ _ _ fun a => by match a with
    | ⟨0, _⟩ => rfl
    | ⟨1, _⟩ => exact (Nat.zero_add _).symm

theorem ld_gain (X : Vec Ideal S2x1024 .f32) (d : Fin 1024) :
    View.ld X gainRow (ix2 (n0 := 1) (n1 := 1024) 0 d) = X (ix2 1 d) :=
  View.ld_unit_apply_of X _ _ _ _ _ fun a => by match a with
    | ⟨0, _⟩ => rfl
    | ⟨1, _⟩ => exact (Nat.zero_add _).symm

/-- Two stores of halves of the rows hold one value at an entry each. -/
theorem rows_apply (p q : Vec Ideal S256x1024 .f32) (r : Fin 512) (k : Fin 1024) (v : EReal)
    (hp : ∀ s : Fin 256, r.val = 256 + s.val → p (ix2 s k) = v) (hq : ∀ s : Fin 256, r.val = s.val → q (ix2 s k) = v) :
    View.canon ([⟨hiRow, p⟩, ⟨loRow, q⟩] : List (View.Piece (Elt Ideal) S512x1024 .f32)) (ix2 r k) = v := by
  refine View.canon_eq_of_allAt _ _ _ (rows_cover p q _)
    (View.allAt_cons_unit _ _ _ _ _ (fun x hx => ?_) (View.allAt_cons_unit _ _ _ _ _ (fun x hx => ?_) (View.allAt_nil _ _)))
  · have h0 : r.val = 256 + (x 0).val := hx 0
    have h1 : k.val = 0 + (x 1).val := hx 1
    have hx' : x = ix2 (n0 := 256) (n1 := 1024) (x 0) k := (eq_ix2 x).trans (congrArg _ (Fin.ext (by rw [h1, Nat.zero_add])))
    rw [hx']; exact hp _ h0
  · have h0 : r.val = 0 + (x 0).val := hx 0
    have h1 : k.val = 0 + (x 1).val := hx 1
    have hx' : x = ix2 (n0 := 256) (n1 := 1024) (x 0) k := (eq_ix2 x).trans (congrArg _ (Fin.ext (by rw [h1, Nat.zero_add])))
    rw [hx']; exact hq _ (h0.trans (Nat.zero_add _))

theorem units_apply (p q : Vec Ideal S1x256x704 .bf16) (r : Fin 512) (k : Fin 704) (v : EReal)
    (hp : ∀ s : Fin 256, r.val = 256 + s.val → p (ix3 0 s k) = v) (hq : ∀ s : Fin 256, r.val = s.val → q (ix3 0 s k) = v) :
    View.canon ([⟨hiUnit, p⟩, ⟨loUnit, q⟩] : List (View.Piece (Elt Ideal) S1x512x704 .bf16)) (ix3 0 r k) = v := by
  refine View.canon_eq_of_allAt _ _ _ (units_cover p q _)
    (View.allAt_cons_unit _ _ _ _ _ (fun x hx => ?_) (View.allAt_cons_unit _ _ _ _ _ (fun x hx => ?_) (View.allAt_nil _ _)))
  · have h0 : r.val = 256 + (x 1).val := hx 1
    have h1 : k.val = 0 + (x 2).val := hx 2
    have hz : x 0 = (0 : Fin 1) := Subsingleton.elim (α := Fin 1) _ _
    have hx' : x = ix3 (n0 := 1) (n1 := 256) (n2 := 704) 0 (x 1) k :=
      (eq_ix3 x).trans (by rw [hz]; exact congrArg _ (Fin.ext (by rw [h1, Nat.zero_add])))
    rw [hx']; exact hp _ h0
  · have h0 : r.val = 0 + (x 1).val := hx 1
    have h1 : k.val = 0 + (x 2).val := hx 2
    have hz : x 0 = (0 : Fin 1) := Subsingleton.elim (α := Fin 1) _ _
    have hx' : x = ix3 (n0 := 1) (n1 := 256) (n2 := 704) 0 (x 1) k :=
      (eq_ix3 x).trans (by rw [hz]; exact congrArg _ (Fin.ext (by rw [h1, Nat.zero_add])))
    rw [hx']; exact hq _ (h0.trans (Nat.zero_add _))

/-! ## The blocks -/

theorem accB_apply (h : Vec Ideal S512x1024 .bf16) (wg wu wd : Vec Ideal S1x704x1024 .bf16) (a : Vec Ideal S512x1024 .f32) (r : Fin 512) (k : Fin 1024) :
    accB h wg wu wd a (ix2 r k) = a (ix2 r k) + gain (fun d => h (ix2 r d)) wg wu wd k := by
  unfold accB
  refine rows_apply _ _ r k _ (fun s hs => ?_) (fun s hs => ?_)
  · rw [pay1_apply, ld_hi]
    rw [show r = ⟨256 + s.val, by have := s.isLt; omega⟩ from Fin.ext hs]
    exact congrArg (fun q => a (ix2 _ k) + gain q wg wu wd k) (funext fun d => ld_hi h s d)
  · rw [pay10_apply, ld_lo]
    rw [show r = ⟨s.val, by have := s.isLt; omega⟩ from Fin.ext hs]
    exact congrArg (fun q => a (ix2 _ k) + gain q wg wu wd k) (funext fun d => ld_lo h s d)

theorem gateB_apply (h : Vec Ideal S512x1024 .bf16) (w : Vec Ideal S1x704x1024 .bf16) (r : Fin 512) (f : Fin 704) :
    gateB h w (ix3 0 r f) = dotRow (fun d => h (ix2 r d)) w f := by
  unfold gateB
  refine units_apply _ _ r f _ (fun s hs => ?_) (fun s hs => ?_)
  · rw [pay13_apply]
    rw [show r = ⟨256 + s.val, by have := s.isLt; omega⟩ from Fin.ext hs]
    exact congrArg (fun q => dotRow q w f) (funext fun d => ld_hi h s d)
  · rw [pay7_apply]
    rw [show r = ⟨s.val, by have := s.isLt; omega⟩ from Fin.ext hs]
    exact congrArg (fun q => dotRow q w f) (funext fun d => ld_lo h s d)

theorem upB_apply (h : Vec Ideal S512x1024 .bf16) (w : Vec Ideal S1x704x1024 .bf16) (r : Fin 512) (f : Fin 704) :
    upB h w (ix3 0 r f) = dotRow (fun d => h (ix2 r d)) w f := by
  unfold upB
  refine units_apply _ _ r f _ (fun s hs => ?_) (fun s hs => ?_)
  · rw [pay14_apply]
    rw [show r = ⟨256 + s.val, by have := s.isLt; omega⟩ from Fin.ext hs]
    exact congrArg (fun q => dotRow q w f) (funext fun d => ld_hi h s d)
  · rw [pay8_apply]
    rw [show r = ⟨s.val, by have := s.isLt; omega⟩ from Fin.ext hs]
    exact congrArg (fun q => dotRow q w f) (funext fun d => ld_lo h s d)

/-- The length by which a row is divided. -/
def scale (x : Fin 1024 → EReal) : EReal :=
  Ideal.rsqrt (Ideal.div (∑ k, x k * x k) (Ideal.ofBits FTy.f32 1149239296#32) + Ideal.ofBits FTy.f32 897988541#32)

theorem normB_apply (x : Vec Ideal S512x1024 .f32) (g : Vec Ideal S2x1024 .f32) (r : Fin 512) (d : Fin 1024) :
    normB x g (ix2 r d) = x (ix2 r d) * scale (fun k => x (ix2 r k)) * g (ix2 1 d) := by
  unfold normB scale
  rw [← ld_gain g d]
  generalize View.ld g gainRow = G
  pointwise [k0_pay3]

theorem pay4_apply (r : Fin 512) (d : Fin 1024) : k0_pay4 (F := Ideal) (ix2 r d) = 0 := by
  pointwise [k0_pay4]

theorem pay2_apply (x a : Vec Ideal S512x1024 .f32) (r : Fin 512) (d : Fin 1024) :
    k0_pay2 (F := Ideal) x a (ix2 r d) = x (ix2 r d) + Ideal.ofBits FTy.f32 0x3F000000#32 * a (ix2 r d) := by
  pointwise [k0_pay2]

/-! ## The reference's arrays -/

section Reference
open Cert.Reference9Ideal.Read

variable (X : Vec Ideal S4096x1024 .f32) (G : Vec Ideal S2x1024 .f32) (Wg Wu Wd : Vec Ideal S4x704x1024 .bf16)

theorem ref_norm (t : Fin 4096) (d : Fin 1024) :
    val_main_v17 (F := Ideal) X G (ix2 t d) = X (ix2 t d) * scale (fun k => X (ix2 t k)) * G (ix2 1 d) := by
  unfold scale
  pointwise [val_main_v17, val_main_v16, val_main_v15, val_main_v14, val_main_v13, val_main_v12, val_main_v11, val_main_v10, val_main_v9,
    val_main_v8, val_main_cst_1, val_main_v7, val_main_v6, val_main_cst_0, val_main_v5, val_main_v4, val_main_v3, val_main_cst]

theorem ref_gate (c : Fin 4) (t : Fin 4096) (f : Fin 704) :
    val_main_v19 (F := Ideal) X G Wg (ix3 c t f) = ∑ d : Fin 1024, val_main_v17 (F := Ideal) X G (ix2 t d) * Wg (ix3 c f d) := by
  pointwise [val_main_v19, val_main_v18, val_main_v0]
  exact Finset.sum_congr rfl fun d _ => mul_comm _ _

theorem ref_up (c : Fin 4) (t : Fin 4096) (f : Fin 704) :
    val_main_v21 (F := Ideal) X G Wu (ix3 c t f) = ∑ d : Fin 1024, val_main_v17 (F := Ideal) X G (ix2 t d) * Wu (ix3 c f d) := by
  pointwise [val_main_v21, val_main_v20, val_main_v1]
  exact Finset.sum_congr rfl fun d _ => mul_comm _ _

theorem ref_unit (c : Fin 4) (t : Fin 4096) (f : Fin 704) :
    val_main_v23 (F := Ideal) X G Wg Wu (ix3 c t f) = unit (val_main_v19 (F := Ideal) X G Wg (ix3 c t f)) (val_main_v21 (F := Ideal) X G Wu (ix3 c t f)) := by
  unfold unit
  rw [zero_sub]
  pointwise [val_main_v23, val_main_v22, val_main_call0_v5, val_main_call0_v4, val_main_call0_cst_0, val_main_call0_v3, val_main_call0_v2,
    val_main_call0_cst, val_main_call0_v1, val_main_call0_v0]

theorem ref_out (t : Fin 4096) (k : Fin 1024) :
    val_main_v27 (F := Ideal) X G Wg Wu Wd (ix2 t k) = X (ix2 t k) + Ideal.ofBits FTy.f32 0x3F000000#32
      * ∑ c : Fin 4, ∑ f : Fin 704, val_main_v23 (F := Ideal) X G Wg Wu (ix3 c t f) * Wd (ix3 c f k) := by
  pointwise [val_main_v27, val_main_v26, val_main_v25, val_main_cst_2, val_main_v24, val_main_v2]

theorem ref_kept_gate (c : Fin 4) (t : Fin 4096) (f : Fin 704) :
    val_main_v28 (F := Ideal) X G Wg (ix3 c t f) = val_main_v19 (F := Ideal) X G Wg (ix3 c t f) := by
  pointwise [val_main_v28]

theorem ref_kept_up (c : Fin 4) (t : Fin 4096) (f : Fin 704) :
    val_main_v29 (F := Ideal) X G Wu (ix3 c t f) = val_main_v21 (F := Ideal) X G Wu (ix3 c t f) := by
  pointwise [val_main_v29]

end Reference

end Cert.Kernel9Ideal.Ffn

end
-- ==== Proof.FfnValue.lean ====
module

public import proofs.«01_k».proof.Proof.FfnFrame
public import proofs.«01_k».proof.Proof.FfnPoint

/-! # The feed-forward layer's result arrays are the reference's

Point `t` of the grid works on rows `512 (t / 4)` and up and on the hidden units of block `t % 4`.  The
running sum after it is the sum over the blocks of hidden units so far. -/

@[expose] public section

set_option maxRecDepth 16384
set_option maxHeartbeats 1000000

noncomputable section

namespace Cert.Kernel9Ideal.Ffn

open Idealize.ShloMosaic Idealize.ShloMosaic.TcCoe Idealize.SL.Sem
open Idealize.ShloMosaic.Pipeline (Dat)
open Cert.Kernel9Ideal Cert.Kernel9Ideal.Gen Cert.Reference9Ideal.Read

variable (m : (ℓ : Loc nD τ sig) → Buf (Elt Ideal) ℓ) (c : Dev nD)

/-- The block each window stages at grid point `t`. -/
theorem idx : ∀ t : Fin cfg0.N, win0_0.index t = ![t.val / 4, 0] ∧ win0_1.index t = ![0, 0]
    ∧ win0_2.index t = ![t.val % 4, 0, 0] ∧ win0_3.index t = ![t.val % 4, 0, 0] ∧ win0_4.index t = ![t.val % 4, 0, 0]
    ∧ win0_5.index t = ![t.val / 4, 0] ∧ win0_6.index t = ![t.val % 4, t.val / 4, 0] ∧ win0_7.index t = ![t.val % 4, t.val / 4, 0] :=
  (by decide +kernel : ∀ t : Fin grid0.N, _)

/-- Row `r` of the block of rows at point `t`. -/
def rowOf (t : Fin cfg0.N) (r : Fin 512) : Fin 4096 := ⟨t.val / 4 * 512 + r.val, by have := t.isLt; have h : cfg0.N = 32 := N_0; have := r.isLt; omega⟩
/-- The block of hidden units at point `t`. -/
def chip (t : Fin cfg0.N) : Fin 4 := ⟨t.val % 4, Nat.mod_lt _ (by decide)⟩

/-! ## The arguments and the blocks of them -/

abbrev aX : Vec Ideal S4096x1024 .f32 := m ((c : Thread nD τ).loc main_arg0)
abbrev aG : Vec Ideal S2x1024 .f32 := m ((c : Thread nD τ).loc main_arg1)
abbrev aWg : Vec Ideal S4x704x1024 .bf16 := m ((c : Thread nD τ).loc main_arg2)
abbrev aWu : Vec Ideal S4x704x1024 .bf16 := m ((c : Thread nD τ).loc main_arg3)
abbrev aWd : Vec Ideal S4x704x1024 .bf16 := m ((c : Thread nD τ).loc main_arg4)

theorem x_block (t : Fin cfg0.N) (r : Fin 512) (d : Fin 1024) :
    (iblk m c 0 t : Vec Ideal S512x1024 .f32) (ix2 r d) = aX m c (ix2 (rowOf t r) d) := by
  unfold rowOf aX
  blk_point [iblk, V, idx t]

theorem g_block (t : Fin cfg0.N) (r : Fin 2) (d : Fin 1024) :
    (iblk m c 1 t : Vec Ideal S2x1024 .f32) (ix2 r d) = aG m c (ix2 r d) := by
  unfold aG
  blk_point [iblk, V, idx t]

theorem wg_block (t : Fin cfg0.N) (f : Fin 704) (d : Fin 1024) :
    (iblk m c 2 t : Vec Ideal S1x704x1024 .bf16) (ix3 0 f d) = aWg m c (ix3 (chip t) f d) := by
  unfold chip aWg
  blk_point [iblk, V, idx t]

theorem wu_block (t : Fin cfg0.N) (f : Fin 704) (d : Fin 1024) :
    (iblk m c 3 t : Vec Ideal S1x704x1024 .bf16) (ix3 0 f d) = aWu m c (ix3 (chip t) f d) := by
  unfold chip aWu
  blk_point [iblk, V, idx t]

theorem wd_block (t : Fin cfg0.N) (f : Fin 704) (d : Fin 1024) :
    (iblk m c 4 t : Vec Ideal S1x704x1024 .bf16) (ix3 0 f d) = aWd m c (ix3 (chip t) f d) := by
  unfold chip aWd
  blk_point [iblk, V, idx t]

/-! ## What a point adds -/

/-- The normalised row the reference has there. -/
def normRow (t : Fin 4096) : Fin 1024 → EReal := fun d => val_main_v17 (F := Ideal) (aX m c) (aG m c) (ix2 t d)

theorem norm_block (t : Fin cfg0.N) (r : Fin 512) (d : Fin 1024) :
    normB (iblk m c 0 t) (iblk m c 1 t) (ix2 r d) = normRow m c (rowOf t r) d := by
  unfold normRow
  rw [ref_norm, normB_apply, x_block, g_block]
  exact congrArg (fun q => aX m c (ix2 (rowOf t r) d) * scale q * aG m c (ix2 1 d)) (funext fun k => x_block m c t r k)

theorem gate_block (t : Fin cfg0.N) (u : Fin 4096) (f : Fin 704) :
    dotRow (normRow m c u) (iblk m c 2 t) f = val_main_v19 (F := Ideal) (aX m c) (aG m c) (aWg m c) (ix3 (chip t) u f) := by
  rw [ref_gate]
  exact Finset.sum_congr rfl fun d _ => congrArg (normRow m c u d * ·) (wg_block m c t f d)

theorem up_block (t : Fin cfg0.N) (u : Fin 4096) (f : Fin 704) :
    dotRow (normRow m c u) (iblk m c 3 t) f = val_main_v21 (F := Ideal) (aX m c) (aG m c) (aWu m c) (ix3 (chip t) u f) := by
  rw [ref_up]
  exact Finset.sum_congr rfl fun d _ => congrArg (normRow m c u d * ·) (wu_block m c t f d)

/-- The reference's part of one entry from one block of hidden units. -/
def part (u : Fin 4096) (k : Fin 1024) (j : Fin 4) : EReal :=
  ∑ f : Fin 704, val_main_v23 (F := Ideal) (aX m c) (aG m c) (aWg m c) (aWu m c) (ix3 j u f) * aWd m c (ix3 j f k)

theorem gain_block (t : Fin cfg0.N) (u : Fin 4096) (k : Fin 1024) :
    gain (normRow m c u) (iblk m c 2 t) (iblk m c 3 t) (iblk m c 4 t) k = part m c u k (chip t) := by
  unfold gain part
  refine Finset.sum_congr rfl fun f _ => ?_
  rw [ref_unit, gate_block, up_block, wd_block]

/-! ## The kernel's own buffers -/

/-- The first `n` of four numbers, added up. -/
def upTo (p : Fin 4 → EReal) (n : ℕ) : EReal := ∑ j ∈ Finset.range n, if h : j < 4 then p ⟨j, h⟩ else 0

theorem upTo_one (p : Fin 4 → EReal) : 0 + p 0 = upTo p 1 := by
  unfold upTo; rw [Finset.sum_range_one, zero_add]; rfl
theorem upTo_succ (p : Fin 4 → EReal) (n : ℕ) (h : n < 4) : upTo p n + p ⟨n, h⟩ = upTo p (n + 1) := by
  unfold upTo; rw [Finset.sum_range_succ _ n, dif_pos h]
theorem upTo_four (p : Fin 4 → EReal) : upTo p 4 = ∑ j, p j := by
  unfold upTo
  rw [Finset.sum_range]
  exact Finset.sum_congr rfl fun j _ => dif_pos j.isLt

theorem kept_apply (n : ℕ) : ∀ hn : n < cfg0.N, (∀ (r : Fin 512) (d : Fin 1024), (kept m c n hn).1 (ix2 r d) = normRow m c (rowOf ⟨n, hn⟩ r) d)
    ∧ ∀ (r : Fin 512) (k : Fin 1024), (kept m c n hn).2 (ix2 r k) = upTo (part m c (rowOf ⟨n, hn⟩ r) k) (n % 4 + 1) := by
  have start : ∀ t : Fin cfg0.N, t.val % 4 = 0 → (∀ (r : Fin 512) (d : Fin 1024), (kept m c t.val t.isLt).1 (ix2 r d) = normRow m c (rowOf t r) d)
      ∧ ∀ (r : Fin 512) (k : Fin 1024), (kept m c t.val t.isLt).2 (ix2 r k) = upTo (part m c (rowOf t r) k) (t.val % 4 + 1) := fun t h => by
    rw [kept_start m c t h]
    refine ⟨fun r d => norm_block m c t r d, fun r k => ?_⟩
    unfold keptStart
    dsimp only
    rw [accB_apply, pay4_apply, show (fun d => normB (iblk m c 0 t) (iblk m c 1 t) (ix2 r d)) = normRow m c (rowOf t r) from
      funext fun d => norm_block m c t r d, gain_block, h, ← upTo_one]
    exact congrArg (fun j => 0 + part m c (rowOf t r) k j) (Fin.ext h)
  induction n with
  | zero => exact fun hn => start ⟨0, hn⟩ rfl
  | succ n ih =>
    intro hn
    by_cases h : (n + 1) % 4 = 0
    · exact start ⟨n + 1, hn⟩ h
    · obtain ⟨i1, i2⟩ := ih (Nat.lt_of_succ_lt hn)
      have hr : ∀ r, rowOf ⟨n, Nat.lt_of_succ_lt hn⟩ r = rowOf ⟨n + 1, hn⟩ r := fun r => Fin.ext (by unfold rowOf; dsimp only; omega)
      have hk := kept_next m c ⟨n + 1, hn⟩ h
      simp only [Nat.add_sub_cancel] at hk
      rw [hk]
      unfold keptNext
      dsimp only
      refine ⟨fun r d => (i1 r d).trans (by rw [hr]), fun r k => ?_⟩
      rw [accB_apply, i2, show (fun d => (kept m c n (Nat.lt_of_succ_lt hn)).1 (ix2 r d)) = normRow m c (rowOf ⟨n + 1, hn⟩ r) from
        funext fun d => (i1 r d).trans (by rw [hr]), gain_block, hr, show n % 4 + 1 = (n + 1) % 4 from by omega]
      exact upTo_succ _ _ (Nat.mod_lt _ (by decide))

/-! ## The result arrays -/

theorem read_5 (W : Vec Ideal S4096x1024 .f32) (t : Fin cfg0.N) (r : Fin 512) (k : Fin 1024) :
    ((cfg0.win 5).blk t).view.read (Elt Ideal) W (ix2 r k) = W (ix2 (rowOf t r) k) := by
  unfold rowOf
  blk_point [idx t]
theorem read_6 (W : Vec Ideal S4x4096x704 .bf16) (t : Fin cfg0.N) (r : Fin 512) (f : Fin 704) :
    ((cfg0.win 6).blk t).view.read (Elt Ideal) W (ix3 0 r f) = W (ix3 (chip t) (rowOf t r) f) := by
  unfold rowOf chip
  blk_point [idx t]
theorem read_7 (W : Vec Ideal S4x4096x704 .bf16) (t : Fin cfg0.N) (r : Fin 512) (f : Fin 704) :
    ((cfg0.win 7).blk t).view.read (Elt Ideal) W (ix3 0 r f) = W (ix3 (chip t) (rowOf t r) f) := by
  unfold rowOf chip
  blk_point [idx t]

/-! What a point leaves for each result is the reference's block there. -/

theorem head5 (t : Fin cfg0.N) (h3 : t.val % 4 = 3) (y : S512x1024.Idx) : k0_pay2 (F := Ideal) (iblk m c 0 t) (kept m c t.val t.isLt).2 y
    = ((cfg0.win 5).blk t).view.read (Elt Ideal) (val_main_v27 (F := Ideal) (aX m c) (aG m c) (aWg m c) (aWu m c) (aWd m c)) y := by
  obtain ⟨r, k, rfl⟩ : ∃ (r : Fin 512) (k : Fin 1024), y = ix2 r k := ⟨y 0, y 1, eq_ix2 y⟩
  refine Eq.trans ?_ (read_5 _ t r k).symm
  rw [pay2_apply, ref_out, (kept_apply m c t.val t.isLt).2, h3, upTo_four, x_block]
  rfl

theorem head6 (t : Fin cfg0.N) (y : S1x512x704.Idx) : gateB (kept m c t.val t.isLt).1 (iblk m c 2 t) y
    = ((cfg0.win 6).blk t).view.read (Elt Ideal) (val_main_v28 (F := Ideal) (aX m c) (aG m c) (aWg m c)) y := by
  obtain ⟨r, f, rfl⟩ : ∃ (r : Fin 512) (f : Fin 704), y = ix3 0 r f :=
    ⟨y 1, y 2, (eq_ix3 y).trans (by rw [show y 0 = (0 : Fin 1) from Subsingleton.elim (α := Fin 1) _ _])⟩
  refine Eq.trans ?_ (read_6 _ t r f).symm
  rw [ref_kept_gate, gateB_apply, show (fun d => (kept m c t.val t.isLt).1 (ix2 r d)) = normRow m c (rowOf t r) from
    funext fun d => (kept_apply m c t.val t.isLt).1 r d, gate_block]

theorem head7 (t : Fin cfg0.N) (y : S1x512x704.Idx) : upB (kept m c t.val t.isLt).1 (iblk m c 3 t) y
    = ((cfg0.win 7).blk t).view.read (Elt Ideal) (val_main_v29 (F := Ideal) (aX m c) (aG m c) (aWu m c)) y := by
  obtain ⟨r, f, rfl⟩ : ∃ (r : Fin 512) (f : Fin 704), y = ix3 0 r f :=
    ⟨y 1, y 2, (eq_ix3 y).trans (by rw [show y 0 = (0 : Fin 1) from Subsingleton.elim (α := Fin 1) _ _])⟩
  refine Eq.trans ?_ (read_7 _ t r f).symm
  rw [ref_kept_up, upB_apply, show (fun d => (kept m c t.val t.isLt).1 (ix2 r d)) = normRow m c (rowOf t r) from
    funext fun d => (kept_apply m c t.val t.isLt).1 r d, up_block]

/-- The layer's result: the input plus half the gated product. -/
theorem final5 : (dats m 0 c).arrAt 5 (cfgs 0).N = val_main_v27 (F := Ideal) (aX m c) (aG m c) (aWg m c) (aWu m c) (aWd m c) := by
  refine (dats m 0 c).arrAt_eq_of_covers 5 _ (by decide +kernel) fun t ht y => ?_
  blk_simp
  rw [after0_5]
  exact head5 m c t ((flush0_5 t).mp ht) y

/-- The gate's values, which the backward pass takes. -/
theorem final6 : (dats m 0 c).arrAt 6 (cfgs 0).N = val_main_v28 (F := Ideal) (aX m c) (aG m c) (aWg m c) := by
  refine (dats m 0 c).arrAt_eq_of_covers 6 _ (by decide +kernel) fun t ht y => ?_
  blk_simp
  rw [after0_6]
  exact head6 m c t y

/-- The other factor's values, likewise. -/
theorem final7 : (dats m 0 c).arrAt 7 (cfgs 0).N = val_main_v29 (F := Ideal) (aX m c) (aG m c) (aWu m c) := by
  refine (dats m 0 c).arrAt_eq_of_covers 7 _ (by decide +kernel) fun t ht y => ?_
  blk_simp
  rw [after0_7]
  exact head7 m c t y

end Cert.Kernel9Ideal.Ffn

end
-- ==== Proof.FfnBits.lean ====
module

public import proofs.«01_k».proof.Defs
public import proofs.«01_k».proof.Proof.FfnFrame
public import proofs.«01_k».proof.Proof.Gen.Kernel9.Launch

/-! # The frame of the feed-forward layer at machine words

The program over the reals and the program at machine words have one text, so the run proved for any
values serves both. -/

@[expose] public section

set_option maxRecDepth 16384
set_option maxHeartbeats 8000000

noncomputable section

namespace Cert.Proof

open Idealize.ShloMosaic Idealize.ShloMosaic.TcCoe

theorem ffn_body : Cert.Kernel9.cc0_ffn2_fwd_1 (F := Bits) = Cert.Kernel9Ideal.cc0_ffn2_fwd_1 (F := Bits) := rfl

theorem ffn_main : Cert.Kernel9.main (F := Bits) = Cert.Kernel9Ideal.main (F := Bits) := rfl

theorem ffn_bodies : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun ffn_body _) _) _) _) _) _) _) _) _) _) _) _) _) _) _) _) _) _) _) _) _

theorem ffn_defs : Cert.Kernel9.defs (F := Bits) = Cert.Kernel9Ideal.defs (F := Bits) :=
  congrArg (Pipeline.defs Cert.Kernel9.pcfgs) ffn_bodies

theorem ffn_run : θ_run (Cert.Kernel9.defs (F := Bits)) (onTc (τ := Cert.Kernel9.τ) (Cert.Kernel9.main (F := Bits)))
    = θ_run (Cert.Kernel9Ideal.defs (F := Bits)) (onTc (τ := Cert.Kernel9Ideal.τ) (Cert.Kernel9Ideal.main (F := Bits))) :=
  congr (congrArg θ_run ffn_defs) (congrArg (onTc (τ := Cert.Kernel9.τ)) ffn_main)

/-- The frame at machine words. -/
theorem frame_ffn : Cert.quiescent_Kernel9 := fun m ρ _ =>
  (DFunLike.congr_fun (congrFun ffn_run ⟨m, fun _ => 0, ρ⟩) _).mpr (Cert.Kernel9Ideal.Ffn.frame (F := Bits) m ρ)

end Cert.Proof

end
-- ==== Proof.FfnClaim.lean ====
module

public import proofs.«01_k».proof.Defs
public import proofs.«01_k».proof.Proof.FfnValue
public import proofs.«01_k».proof.Proof.FfnBits
public import proofs.«01_k».proof.Proof.Gen.Reference9Ideal.Run
public import proofs.«01_k».proof.Proof.Gen.Reference9Ideal.Read
public import Idealize.ShloMosaic.Lib.Claim

/-! # The claims about the feed-forward layer -/

@[expose] public section

set_option maxRecDepth 16384

noncomputable section

namespace Cert.Feedforward

open Idealize.ShloMosaic Idealize.ShloMosaic.TcCoe Idealize.SL.Sem

/-- The kernel's run ends with the reference's terms in its results and the arguments as they were. -/
theorem run_kernel (m : (ℓ : Loc Cert.Kernel9Ideal.nD Cert.Kernel9Ideal.τ Cert.Kernel9Ideal.sig) → Buf (Elt Ideal) ℓ) (ρ : Dev Cert.Kernel9Ideal.nD → PrngReg) :
    θ_run (Cert.Kernel9Ideal.defs (F := Ideal)) (onTc (τ := Cert.Kernel9Ideal.τ) (Cert.Kernel9Ideal.main (F := Ideal))) ⟨m, fun _ => 0, ρ⟩ fun r => ∀ c : Dev Cert.Kernel9Ideal.nD,
      r.2.mem ((c.tc : Thread Cert.Kernel9Ideal.nD Cert.Kernel9Ideal.τ).loc Cert.Kernel9Ideal.main_v0_0) = Cert.Reference9Ideal.Read.val_main_v27 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))
      ∧ r.2.mem ((c.tc : Thread Cert.Kernel9Ideal.nD Cert.Kernel9Ideal.τ).loc Cert.Kernel9Ideal.main_v0_1) = Cert.Reference9Ideal.Read.val_main_v28 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))
      ∧ r.2.mem ((c.tc : Thread Cert.Kernel9Ideal.nD Cert.Kernel9Ideal.τ).loc Cert.Kernel9Ideal.main_v0_2) = Cert.Reference9Ideal.Read.val_main_v29 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg3))
      ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4) :=
  (θ_run Cert.Kernel9Ideal.defs _ _).mono (fun _ h c => ⟨((h c).1 5).trans (Cert.Kernel9Ideal.Ffn.final5 m c), ((h c).1 6).trans (Cert.Kernel9Ideal.Ffn.final6 m c), ((h c).1 7).trans (Cert.Kernel9Ideal.Ffn.final7 m c),
    ((h c).1 0).trans (((Cert.Kernel9Ideal.Ffn.dats m 0 c).arrAt_in 0 rfl _).trans (Cert.Kernel9Ideal.Ffn.A_eq m c 0)),
    ((h c).1 1).trans (((Cert.Kernel9Ideal.Ffn.dats m 0 c).arrAt_in 1 rfl _).trans (Cert.Kernel9Ideal.Ffn.A_eq m c 1)),
    ((h c).1 2).trans (((Cert.Kernel9Ideal.Ffn.dats m 0 c).arrAt_in 2 rfl _).trans (Cert.Kernel9Ideal.Ffn.A_eq m c 2)),
    ((h c).1 3).trans (((Cert.Kernel9Ideal.Ffn.dats m 0 c).arrAt_in 3 rfl _).trans (Cert.Kernel9Ideal.Ffn.A_eq m c 3)),
    ((h c).1 4).trans (((Cert.Kernel9Ideal.Ffn.dats m 0 c).arrAt_in 4 rfl _).trans (Cert.Kernel9Ideal.Ffn.A_eq m c 4))⟩) (Cert.Kernel9Ideal.Ffn.run_main m ρ)

/-- The reference's run, its results named by the stages. -/
theorem run_reference (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ fun r => ∀ c : Dev Cert.Reference9Ideal.nD,
      r.2.mem ((c.tc : Thread Cert.Reference9Ideal.nD Cert.Reference9Ideal.τ).loc Cert.Reference9Ideal.main_v27) = Cert.Reference9Ideal.Read.val_main_v27 (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))
      ∧ r.2.mem ((c.tc : Thread Cert.Reference9Ideal.nD Cert.Reference9Ideal.τ).loc Cert.Reference9Ideal.main_v28) = Cert.Reference9Ideal.Read.val_main_v28 (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))
      ∧ r.2.mem ((c.tc : Thread Cert.Reference9Ideal.nD Cert.Reference9Ideal.τ).loc Cert.Reference9Ideal.main_v29) = Cert.Reference9Ideal.Read.val_main_v29 (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4) :=
  (θ_run _ _ _).mono (fun r h c => by
    obtain ⟨e0, e1, e2, hargs⟩ := h c
    exact ⟨e0.trans (Cert.Reference9Ideal.Read.val_main_v27_eq _ _ _ _ _), e1.trans (Cert.Reference9Ideal.Read.val_main_v28_eq _ _ _), e2.trans (Cert.Reference9Ideal.Read.val_main_v29_eq _ _ _), hargs⟩)
    (Cert.Reference9Ideal.Value.run (F := Ideal) m ρ)

/-- The kernel's idealisation computes the layer and the two arrays kept for its gradient. -/
theorem algebraic : Cert.algebraic_Kernel9Ideal_Reference9Ideal := by
  intro m g m' g' _ hagree
  refine ⟨fun c => Cert.Reference9Ideal.Read.val_main_v27 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)), fun c => Cert.Reference9Ideal.Read.val_main_v28 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), fun c => Cert.Reference9Ideal.Read.val_main_v29 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg3)),
    run_kernel m g, (θ_run _ _ _).mono (fun r h c => ?_) (run_reference m' g')⟩
  obtain ⟨h0, h1, h2, hargs⟩ := h c
  obtain ⟨e0, e1, e2, e3, e4⟩ := hagree c
  rw [e0, e1, e2, e3, e4] at h0
  rw [e0, e1, e2] at h1
  rw [e0, e1, e3] at h2
  exact ⟨h0, h1, h2, hargs⟩

/-- The reference ends with its arguments unchanged; it declares no semaphore. -/
theorem frame_reference : Cert.quiescent_Reference9Ideal := by
  intro m ρ _
  exact (θ_run Cert.Reference9Ideal.defs _ _).mono
    (fun r h => ⟨fun c => (h c).2.2.2, Idealize.ShloMosaic.sem_eq_zero_of_no_sems (by decide) r.2⟩) (run_reference m ρ)

end Cert.Feedforward

end
-- ==== Proof.lean ====
/- The certificate: the claims about the gradient of the attention (`Proof/Flash*.lean`), and those about the gradient
   of the output gates, from the runs of the two programs and the values of the kernel's four result arrays
   (`Proof/Gate*.lean`); the fifteen products (`Proof/Product*.lean`); and the feed-forward layer (`Proof/Ffn*.lean`). -/
module

public import proofs.«01_k».proof.Defs
public import proofs.«01_k».proof.Proof.Gen.KernelIdeal.Loops
public import proofs.«01_k».proof.Proof.Gen.Kernel.Loops
public import proofs.«01_k».proof.Proof.Gen.KernelIdeal.Points
public import proofs.«01_k».proof.Proof.Gen.KernelIdeal.Launch
public import proofs.«01_k».proof.Proof.Gen.KernelIdeal.Skeleton
public import proofs.«01_k».proof.Proof.Gen.Kernel.Points
public import proofs.«01_k».proof.Proof.Gen.Kernel.Launch
public import proofs.«01_k».proof.Proof.Gen.Kernel.Skeleton
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.On_gate_columns
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gate
public import proofs.«01_k».proof.Proof.GateB
public import proofs.«01_k».proof.Proof.GateC
public import proofs.«01_k».proof.Proof.FlashBits
public import proofs.«01_k».proof.Proof.FlashClaim
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
public import proofs.«01_k».proof.Proof.Product16
public import proofs.«01_k».proof.Proof.Product17
public import proofs.«01_k».proof.Proof.Product18
public import proofs.«01_k».proof.Proof.FfnClaim
public import Idealize.ShloMosaic.Lib.Claim
public import Idealize.ShloMosaic.Adequacy
public import Idealize.ShloMosaic.Init

@[expose] public section

noncomputable section

namespace Cert.Proof

open Idealize.ShloMosaic Idealize.SL.Sem Cert.Kernel2

/-- Where the mask holds, the column is one of the gates' 2048. -/
theorem lt_of_mask [Cert.On_gate_columns.Facts] (a0 : FVec Ideal S4096x3840 .bf16) (a1 : FVec Ideal S2x2x1024 .f32) (a2 a3 a4 : FVec Ideal S4096x1024 .bf16)
    (i : S4096x3840.Idx) (h : (Cert.On_gate_columns.fn (F := Ideal) a0 a1 a2 a3 a4).2.2.1 i = 1#1) : (i 1 : ℕ) < 2048 := by
  idx_vars i
  revert h
  pointwise [Cert.On_gate_columns.fn]
  intro h
  rw [show BitVec.ofNat 32 (i1 : ℕ) = BitVec.ofNat 32 i1.val from rfl] at h
  have hi := i1.isLt
  by_contra hc
  have h2 : (BitVec.ofNat 32 i1.val).slt 2048#32 = true := by
    by_contra hn
    simp only [IntOp.cmpi] at h
    rw [Bool.not_eq_true] at hn
    simp [hn] at h
  rw [BitVec.slt_iff_toInt_lt] at h2
  simp [BitVec.toInt_eq_toNat_cond] at h2
  omega

/-- The kernel's run: its four results are the reference's terms, the third one in the gates' columns. -/
theorem run_gate (m : (ℓ : Loc Cert.Kernel2Ideal.nD Cert.Kernel2Ideal.τ Cert.Kernel2Ideal.sig) → Buf (Elt Ideal) ℓ) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩ fun r => ∀ c : Dev Cert.Kernel2Ideal.nD,
      r.2.mem ((c.tc : Thread Cert.Kernel2Ideal.nD Cert.Kernel2Ideal.τ).loc Cert.Kernel2Ideal.main_v0_0) = Cert.Reference2Ideal.Read.val_main_v42 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg4))
      ∧ r.2.mem ((c.tc : Thread Cert.Kernel2Ideal.nD Cert.Kernel2Ideal.τ).loc Cert.Kernel2Ideal.main_v0_1) = Cert.Reference2Ideal.Read.val_main_v43 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg4))
      ∧ r.2.mem ((c.tc : Thread Cert.Kernel2Ideal.nD Cert.Kernel2Ideal.τ).loc Cert.Kernel2Ideal.main_v0_2) = (fun i => if (i 1 : ℕ) < 2048 then Cert.Reference2Ideal.Read.val_main_v44 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) i else Cert.Kernel2Ideal.Gen.V m c Cert.Kernel2Ideal.main_v0_2 i)
      ∧ r.2.mem ((c.tc : Thread Cert.Kernel2Ideal.nD Cert.Kernel2Ideal.τ).loc Cert.Kernel2Ideal.main_v0_3) = Cert.Reference2Ideal.Read.val_main_v39 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) := by
  run_from Cert.Kernel2Ideal.Gen.run_main m ρ
  · exact Cert.Kernel2Ideal.Gate.final5 m c
  · exact Cert.Kernel2Ideal.Gate.final6 m c
  · exact Cert.Kernel2Ideal.Gate.final7 m c
  · exact Cert.Kernel2Ideal.Gate.final8 m c

/-- The reference's run, its results named by the stages. -/
theorem run_ref (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v42) = Cert.Reference2Ideal.Read.val_main_v42 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v43) = Cert.Reference2Ideal.Read.val_main_v43 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v44) = Cert.Reference2Ideal.Read.val_main_v44 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v39) = Cert.Reference2Ideal.Read.val_main_v39 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) :=
  Cert.Reference2Ideal.Value.run m ρ

/-- The gradient of the gates: the kernel's idealisation computes what the plain gradient does. -/
theorem algebraic : Cert.algebraic_Kernel2Ideal_Reference2Ideal_on_gate_columns := by
  intro m g m' g' _ hagree
  refine ⟨fun c => Cert.Reference2Ideal.Read.val_main_v42 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg4)), fun c => Cert.Reference2Ideal.Read.val_main_v43 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg4)),
    fun c => Cert.Reference2Ideal.Read.val_main_v44 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => Cert.Reference2Ideal.Read.val_main_v39 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run _ _ _).mono (fun r h c => ?_) (run_gate m g), (θ_run _ _ _).mono (fun r h c => ?_) (run_ref m' g')⟩
  · obtain ⟨h0, h1, h2, h3, hargs⟩ := h c
    exact ⟨fun i _ => congrFun h0 i, fun i _ => congrFun h1 i, fun i hi => (congrFun h2 i).trans (if_pos (lt_of_mask _ _ _ _ _ i hi)),
      fun i _ => congrFun h3 i, hargs⟩
  · obtain ⟨h0, h1, h2, h3, hargs⟩ := h c
    obtain ⟨e0, e1, e2, e3, e4⟩ := hagree c
    rw [e0, e1, e4] at h0 h1
    rw [e0, e1, e2, e3, e4] at h2 h3
    exact ⟨fun i _ => congrFun h0 i, fun i _ => congrFun h1 i, fun i _ => congrFun h2 i, fun i _ => congrFun h3 i, hargs⟩

/-- The reference ends with its arguments unchanged; it declares no semaphore. -/
theorem frame_reference : Cert.quiescent_Reference2Ideal := by
  intro m ρ _
  exact (θ_run Cert.Reference2Ideal.defs _ _).mono
    (fun r h => ⟨fun c => (h c).2.2.2.2, Idealize.ShloMosaic.sem_eq_zero_of_no_sems (by decide) r.2⟩) (run_ref m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_finite.Gen.facts, Cert.On_gate_columns.Gen.facts,
  frame_kernel, fun m ρ _ => Cert.KernelIdeal.Flash.frame (F := Ideal) m ρ, fun m ρ _ => Cert.KernelIdeal.Flash.frame (F := Ideal) m ρ,
  fun m ρ _ => frame_attention m ρ, fun m ρ _ => frame_attention m ρ,
  fun m ρ _ => Cert.Kernel2.Gen.frame m ρ, fun m ρ _ => Cert.Kernel2Ideal.Gen.frame m ρ, frame_reference,
  fun m ρ _ => Cert.Kernel3.Gen.frame m ρ, fun m ρ _ => Cert.Kernel3Ideal.Gen.frame m ρ, Cert.Product3.frame_reference,
  fun m ρ _ => Cert.Kernel4.Gen.frame m ρ, fun m ρ _ => Cert.Kernel4Ideal.Gen.frame m ρ, Cert.Product4.frame_reference,
  fun m ρ _ => Cert.Kernel5.Gen.frame m ρ, fun m ρ _ => Cert.Kernel5Ideal.Gen.frame m ρ, Cert.Product5.frame_reference,
  fun m ρ _ => Cert.Kernel6.Gen.frame m ρ, fun m ρ _ => Cert.Kernel6Ideal.Gen.frame m ρ, Cert.Product6.frame_reference,
  fun m ρ _ => Cert.Kernel7.Gen.frame m ρ, fun m ρ _ => Cert.Kernel7Ideal.Gen.frame m ρ, Cert.Product7.frame_reference,
  fun m ρ _ => Cert.Kernel8.Gen.frame m ρ, fun m ρ _ => Cert.Kernel8Ideal.Gen.frame m ρ, Cert.Product8.frame_reference,
  frame_ffn, fun m ρ _ => Cert.Kernel9Ideal.Ffn.frame (F := Ideal) m ρ, Cert.Feedforward.frame_reference,
  fun m ρ _ => Cert.Kernel10.Gen.frame m ρ, fun m ρ _ => Cert.Kernel10Ideal.Gen.frame m ρ, Cert.Product10.frame_reference,
  fun m ρ _ => Cert.Kernel11.Gen.frame m ρ, fun m ρ _ => Cert.Kernel11Ideal.Gen.frame m ρ, Cert.Product11.frame_reference,
  fun m ρ _ => Cert.Kernel12.Gen.frame m ρ, fun m ρ _ => Cert.Kernel12Ideal.Gen.frame m ρ, Cert.Product12.frame_reference,
  fun m ρ _ => Cert.Kernel13.Gen.frame m ρ, fun m ρ _ => Cert.Kernel13Ideal.Gen.frame m ρ, Cert.Product13.frame_reference,
  fun m ρ _ => Cert.Kernel14.Gen.frame m ρ, fun m ρ _ => Cert.Kernel14Ideal.Gen.frame m ρ, Cert.Product14.frame_reference,
  fun m ρ _ => Cert.Kernel15.Gen.frame m ρ, fun m ρ _ => Cert.Kernel15Ideal.Gen.frame m ρ, Cert.Product15.frame_reference,
  fun m ρ _ => Cert.Kernel16.Gen.frame m ρ, fun m ρ _ => Cert.Kernel16Ideal.Gen.frame m ρ, Cert.Product16.frame_reference,
  fun m ρ _ => Cert.Kernel17.Gen.frame m ρ, fun m ρ _ => Cert.Kernel17Ideal.Gen.frame m ρ, Cert.Product17.frame_reference,
  fun m ρ _ => Cert.Kernel18.Gen.frame m ρ, fun m ρ _ => Cert.Kernel18Ideal.Gen.frame m ρ, Cert.Product18.frame_reference,
  preserves_kernel, algebraic_attention, trivial, algebraic, trivial, Product3.algebraic, trivial, Product4.algebraic, trivial, Product5.algebraic, trivial, Product6.algebraic, trivial, Product7.algebraic, trivial, Product8.algebraic, trivial, Feedforward.algebraic, trivial, Product10.algebraic,
  trivial, Product11.algebraic, trivial, Product12.algebraic, trivial, Product13.algebraic, trivial, Product14.algebraic, trivial, Product15.algebraic, trivial, Product16.algebraic, trivial, Product17.algebraic, trivial, Product18.algebraic⟩

end Cert.Proof

end
